-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x6144x8192 : Shape := ⟨3, ![4, 6144, 8192]⟩
abbrev S4x6144x1 : Shape := ⟨3, ![4, 6144, 1]⟩
abbrev S8192x4096 : Shape := ⟨2, ![8192, 4096]⟩
abbrev S64x32 : Shape := ⟨2, ![64, 32]⟩
abbrev S24576x8192 : Shape := ⟨2, ![24576, 8192]⟩
abbrev S96x1x256 : Shape := ⟨3, ![96, 1, 256]⟩
abbrev S24576x4096 : Shape := ⟨2, ![24576, 4096]⟩
abbrev S256x8192 : Shape := ⟨2, ![256, 8192]⟩
abbrev S1x1x256 : Shape := ⟨3, ![1, 1, 256]⟩
abbrev S256x4096 : Shape := ⟨2, ![256, 4096]⟩
abbrev S256x128 : Shape := ⟨2, ![256, 128]⟩
abbrev S256x256 : Shape := ⟨2, ![256, 256]⟩
abbrev S1x1 : Shape := ⟨2, ![1, 1]⟩
abbrev S128x128 : Shape := ⟨2, ![128, 128]⟩
abbrev S128x512 : Shape := ⟨2, ![128, 512]⟩
abbrev S256x512 : Shape := ⟨2, ![256, 512]⟩
abbrev S1x256 : Shape := ⟨2, ![1, 256]⟩
abbrev S256x1 : Shape := ⟨2, ![256, 1]⟩
abbrev S256 : Shape := ⟨1, ![256]⟩

abbrev nBuf : Space → Nat
  | .hbm => 8
  | .vmem => 12
  | .smem => 1
  | _ => 0

abbrev bufTy : (tb : Table) → Fin (tcTables nBuf tb) → BufTy
  | .hbm, ⟨0, _⟩ => ⟨S4x6144x8192, .fp8e4m3⟩
  | .hbm, ⟨1, _⟩ => ⟨S4x6144x1, .f32⟩
  | .hbm, ⟨2, _⟩ => ⟨S8192x4096, .fp8e4m3⟩
  | .hbm, ⟨3, _⟩ => ⟨S64x32, .f32⟩
  | .hbm, ⟨4, _⟩ => ⟨S24576x8192, .fp8e4m3⟩
  | .hbm, ⟨5, _⟩ => ⟨S96x1x256, .f32⟩
  | .hbm, ⟨6, _⟩ => ⟨S24576x4096, .fp8e4m3⟩
  | .hbm, ⟨7, _⟩ => ⟨S96x1x256, .f32⟩
  | .local _ .vmem, ⟨0, _⟩ => ⟨S256x8192, .fp8e4m3⟩
  | .local _ .vmem, ⟨1, _⟩ => ⟨S256x8192, .fp8e4m3⟩
  | .local _ .vmem, ⟨2, _⟩ => ⟨S1x1x256, .f32⟩
  | .local _ .vmem, ⟨3, _⟩ => ⟨S1x1x256, .f32⟩
  | .local _ .vmem, ⟨4, _⟩ => ⟨S8192x4096, .fp8e4m3⟩
  | .local _ .vmem, ⟨5, _⟩ => ⟨S256x4096, .fp8e4m3⟩
  | .local _ .vmem, ⟨6, _⟩ => ⟨S256x4096, .fp8e4m3⟩
  | .local _ .vmem, ⟨7, _⟩ => ⟨S1x1x256, .f32⟩
  | .local _ .vmem, ⟨8, _⟩ => ⟨S1x1x256, .f32⟩
  | .local _ .vmem, ⟨9, _⟩ => ⟨S256x4096, .f32⟩
  | .local _ .vmem, ⟨10, _⟩ => ⟨S256x128, .f32⟩
  | .local _ .vmem, ⟨11, _⟩ => ⟨S256x128, .f32⟩
  | .local _ .smem, ⟨0, _⟩ => ⟨S64x32, .f32⟩
  | _, _ => ⟨S4x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![97], ![false]⟩

def k0_cond2 (i : grid0.Coords) : BitVec 1 :=
  let arg0 : BitVec 32 := BitVec.ofNat 32 (i 0).val
  let c96_i32 : BitVec 32 := 96#32
  let v3 : BitVec 1 := Scalar.cmpi .slt arg0 c96_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c96_i32_2 : BitVec 32 := 96#32
  let v6 : BitVec 1 := Scalar.cmpi .eq arg0 c96_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c95_i32 : BitVec 32 := 95#32
  let v0 : BitVec 32 := Scalar.minsi arg0 c95_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c95_i32 : BitVec 32 := 95#32
  let v0 : BitVec 32 := Scalar.minsi arg0 c95_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x6144x8192 : Shape := ⟨3, ![4, 6144, 8192]⟩
abbrev S4x6144x1 : Shape := ⟨3, ![4, 6144, 1]⟩
abbrev S8192x4096 : Shape := ⟨2, ![8192, 4096]⟩
abbrev S64x32 : Shape := ⟨2, ![64, 32]⟩
abbrev S24576x8192 : Shape := ⟨2, ![24576, 8192]⟩
abbrev S24576x1 : Shape := ⟨2, ![24576, 1]⟩
abbrev S24576x4096 : Shape := ⟨2, ![24576, 4096]⟩
abbrev S96x1x256 : Shape := ⟨3, ![96, 1, 256]⟩
abbrev S64x128x32x128 : Shape := ⟨4, ![64, 128, 32, 128]⟩
abbrev S64x1x32x1 : Shape := ⟨4, ![64, 1, 32, 1]⟩
abbrev S24576 : Shape := ⟨1, ![24576]⟩

abbrev nBuf : Space → Nat
  | .hbm => 8
  | .vmem => 6
  | .smem => 0
  | _ => 0

abbrev bufTy : (tb : Table) → Fin (tcTables nBuf tb) → BufTy
  | .hbm, ⟨0, _⟩ => ⟨S4x6144x8192, .fp8e4m3⟩
  | .hbm, ⟨1, _⟩ => ⟨S4x6144x1, .f32⟩
  | .hbm, ⟨2, _⟩ => ⟨S8192x4096, .fp8e4m3⟩
  | .hbm, ⟨3, _⟩ => ⟨S64x32, .f32⟩
  | .hbm, ⟨4, _⟩ => ⟨S24576x8192, .fp8e4m3⟩
  | .hbm, ⟨5, _⟩ => ⟨S24576x1, .f32⟩
  | .hbm, ⟨6, _⟩ => ⟨S24576x4096, .fp8e4m3⟩
  | .hbm, ⟨7, _⟩ => ⟨S96x1x256, .f32⟩
  | .local _ .vmem, ⟨0, _⟩ => ⟨S24576x8192, .fp8e4m3⟩
  | .local _ .vmem, ⟨1, _⟩ => ⟨S24576x1, .f32⟩
  | .local _ .vmem, ⟨2, _⟩ => ⟨S8192x4096, .fp8e4m3⟩
  | .local _ .vmem, ⟨3, _⟩ => ⟨S64x32, .f32⟩
  | .local _ .vmem, ⟨4, _⟩ => ⟨S24576x4096, .fp8e4m3⟩
  | .local _ .vmem, ⟨5, _⟩ => ⟨S96x1x256, .f32⟩
  | _, _ => ⟨S4x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Run.Points.lean ====
/- What the runs of the kernel body share: its branch conditions over the grid points, where its windows are
   idle, and its staging and scratch memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 97 = 0 :=
  (fun t => by
    have ht : t.val < 97 := Nat.lt_of_lt_of_eq t.isLt N_0
    have e0 : (grid0.coords t 0).val = t.val / 1 % 97 := Pipeline.Grid.coords_val t 0 (by decide) rfl
    simp only [cond0_0, e0]
    word_cmp
   : ∀ t : Fin grid0.N, cond0_0 (grid0.coords t) ↔ t.val % 97 = 0)

/-- The condition of the body's `scf.if` 1 (`k0_h2`), from the grid coordinates (the skeleton's scalar
    chain substituted). -/
abbrev cond0_1 (i : grid0.Coords) : Prop := k0_cond2 i = 1#1
/-- It holds at the points before point 96 — decided over the grid. -/
theorem hcond0_1 : ∀ t : Fin cfg0.N, cond0_1 (grid0.coords t) ↔ t.val < 96 :=
  (by decide +kernel : ∀ t : Fin grid0.N, cond0_1 (grid0.coords t) ↔ t.val < 96)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 97 = 96 :=
  (fun t => by
    have ht : t.val < 97 := Nat.lt_of_lt_of_eq t.isLt N_0
    have e0 : (grid0.coords t 0).val = t.val / 1 % 97 := Pipeline.Grid.coords_val t 0 (by decide) rfl
    simp only [cond0_2, k0_cond3, e0]
    word_cmp
   : ∀ t : Fin grid0.N, cond0_2 (grid0.coords t) ↔ t.val % 97 = 96)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 live: the case stores into it. -/
theorem liveAt0_4_A : ∀ t : Fin cfg0.N, cond0_0 (grid0.coords t) → cond0_1 (grid0.coords t) → ¬cond0_2 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → ¬cond0_2 (grid0.coords t) → cfg0.idle 4 (grid0.coords t) = false := by decide +kernel
/-- At the points of case C the printed configuration (`Cfg.idle`) calls output 4 live: the case stores into it. -/
theorem liveAt0_4_C : ∀ t : Fin cfg0.N, ¬cond0_0 (grid0.coords t) → ¬cond0_1 (grid0.coords t) → cond0_2 (grid0.coords t) → cfg0.idle 4 (grid0.coords t) = false := by decide +kernel
/-- At the points of case A the printed configuration (`Cfg.idle`) calls output 5 live: the case stores into it. -/
theorem liveAt0_5_A : ∀ t : Fin cfg0.N, cond0_0 (grid0.coords t) → cond0_1 (grid0.coords t) → ¬cond0_2 (grid0.coords t) → cfg0.idle 5 (grid0.coords t) = false := by decide +kernel
/-- At the points of case B the printed configuration (`Cfg.idle`) calls output 5 live: the case stores into it. -/
theorem liveAt0_5_B : ∀ t : Fin cfg0.N, ¬cond0_0 (grid0.coords t) → cond0_1 (grid0.coords t) → ¬cond0_2 (grid0.coords t) → cfg0.idle 5 (grid0.coords t) = false := by decide +kernel
/-- At the last point nothing is stored into output 5: the configuration calls it idle there. -/
theorem idleAt0_5_C : ∀ t : Fin cfg0.N, ¬cond0_0 (grid0.coords t) → ¬cond0_1 (grid0.coords t) → cond0_2 (grid0.coords t) → cfg0.idle 5 (grid0.coords t) = true := by decide +kernel

/-! ## The kernel body on any staging memrefs: a subtype the run finds -/

/-- One staging buffer of output window 4, through which its contents are stated (`View.read_writes_of_cover`: the
    choice does not matter). -/
abbrev VO0_4 : View sig .tc .vmem S256x4096 .fp8e4m3 := (Memref.whole cc0_stg4_0 : Memref sig .tc .vmem S256x4096 .fp8e4m3).view
/-- One staging buffer of output window 5, through which its contents are stated (`View.read_writes_of_cover`: the
    choice does not matter). -/
abbrev VO0_5 : View sig .tc .vmem S1x1x256 .f32 := (Memref.whole cc0_stg5_0 : Memref sig .tc .vmem S1x1x256 .f32).view
/-- Each window's current staging memref at point `t`, spelled as the pipeline passes it (`bodyAt0`), and its wholeness. -/
abbrev ms0_0 (t : Fin cfg0.N) : Memref sig .tc .vmem S256x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S64x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x4096 .f32 := Memref.whole cc0_scratch0
abbrev scM0_1 : Memref sig .tc .vmem S256x128 .f32 := Memref.whole cc0_scratch1
abbrev scM0_2 : Memref sig .tc .vmem S256x128 .f32 := Memref.whole cc0_scratch2
/-- The scratch `arg7` the kernel carries between points, as a view: what it holds is stated through it. -/
abbrev VS0_0 : View sig .tc .vmem S256x4096 .f32 := scM0_0.view
/-- The scratch `arg8` the kernel carries between points, as a view: what it holds is stated through it. -/
abbrev VS0_1 : View sig .tc .vmem S256x128 .f32 := scM0_1.view
/-- The scratch `arg9` the kernel carries between points, as a view: what it holds is stated through it. -/
abbrev VS0_2 : View sig .tc .vmem S256x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.Run.CaseA.lean ====
/- The run of the kernel body at the first point: the scratch is zeroed, then read back as the block before the first. -/
module

public import proofs.«01_k».proof.Proof.Run.Points

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 21408000 in
/-- The run of the body at the first point: the scratch is zeroed, then read back as the block before the first.
    The lists are the pieces it stores into each buffer, the last first; the statement says that on whole buffers
    the body ends with each buffer it stored into holding those pieces and every other buffer as it was. -/
noncomputable def kernelRun0_A (c : Dev nD) (i : grid0.Coords) (arg1 : Memref sig .tc .vmem S256x8192 .fp8e4m3) (harg1 : arg1.IsWhole) (arg2 : Memref sig .tc .vmem S1x1x256 .f32) (harg2 : arg2.IsWhole) (arg3 : Memref sig .tc .vmem S8192x4096 .fp8e4m3) (harg3 : arg3.IsWhole) (arg4 : Memref sig .tc .smem S64x32 .f32) (harg4 : arg4.IsWhole) (arg5 : Memref sig .tc .vmem S256x4096 .fp8e4m3) (harg5 : arg5.IsWhole) (arg6 : Memref sig .tc .vmem S1x1x256 .f32) (harg6 : arg6.IsWhole) (arg7 : Memref sig .tc .vmem S256x4096 .f32) (harg7 : arg7.IsWhole) (arg8 : Memref sig .tc .vmem S256x128 .f32) (harg8 : arg8.IsWhole) (arg9 : Memref sig .tc .vmem S256x128 .f32) (harg9 : arg9.IsWhole) (hc0 : cond0_0 i) (hc1 : cond0_1 i) (hc2 : ¬cond0_2 i)
    (x0 : Vec F S256x8192 .fp8e4m3) (x1 : Vec F S1x1x256 .f32) (x2 : Vec F S8192x4096 .fp8e4m3) (x3 : Vec F S64x32 .f32) :
    Σ' (L4 : List (View.Piece (Elt F) S256x4096 .fp8e4m3)), Σ' (L5 : List (View.Piece (Elt F) S1x1x256 .f32)), Σ' (LS0 : List (View.Piece (Elt F) S256x4096 .f32)), Σ' (LS1 : List (View.Piece (Elt F) S256x128 .f32)), { LS2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_fp8_linear_requant i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_fp8_linear_requant_eq_skeleton]; unfold cc0_fp8_linear_requant_skel
    simp only [k0_part404_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part405_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part406_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part407_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part408_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part409_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Run

end
-- ==== Proof.Run.CaseB.lean ====
/- The run of the kernel body at the middle points: the block before is written out, this one is computed. -/
module

public import proofs.«01_k».proof.Proof.Run.CaseA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 21372000 in
/-- The run of the body at the middle points: the block before is written out, this one is computed.
    The lists are the pieces it stores into each buffer, the last first; the statement says that on whole buffers
    the body ends with each buffer it stored into holding those pieces and every other buffer as it was. -/
noncomputable def kernelRun0_B (c : Dev nD) (i : grid0.Coords) (arg1 : Memref sig .tc .vmem S256x8192 .fp8e4m3) (harg1 : arg1.IsWhole) (arg2 : Memref sig .tc .vmem S1x1x256 .f32) (harg2 : arg2.IsWhole) (arg3 : Memref sig .tc .vmem S8192x4096 .fp8e4m3) (harg3 : arg3.IsWhole) (arg4 : Memref sig .tc .smem S64x32 .f32) (harg4 : arg4.IsWhole) (arg5 : Memref sig .tc .vmem S256x4096 .fp8e4m3) (harg5 : arg5.IsWhole) (arg6 : Memref sig .tc .vmem S1x1x256 .f32) (harg6 : arg6.IsWhole) (arg7 : Memref sig .tc .vmem S256x4096 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : cond0_1 i) (hc2 : ¬cond0_2 i)
    (x0 : Vec F S256x8192 .fp8e4m3) (x1 : Vec F S1x1x256 .f32) (x2 : Vec F S8192x4096 .fp8e4m3) (x3 : Vec F S64x32 .f32) (xs0 : Vec F S256x4096 .f32) (xs1 : Vec F S256x128 .f32) (xs2 : Vec F S256x128 .f32) :
    Σ' (L4 : List (View.Piece (Elt F) S256x4096 .fp8e4m3)), Σ' (L5 : List (View.Piece (Elt F) S1x1x256 .f32)), Σ' (LS0 : List (View.Piece (Elt F) S256x4096 .f32)), Σ' (LS1 : List (View.Piece (Elt F) S256x128 .f32)), { LS2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_fp8_linear_requant i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_fp8_linear_requant_eq_skeleton]; unfold cc0_fp8_linear_requant_skel
    simp only [k0_part404_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part405_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part406_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part407_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part408_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part409_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Run

end
-- ==== Proof.Run.CaseC.lean ====
/- The run of the kernel body at the last point: the last block is written out and nothing else is touched. -/
module

public import proofs.«01_k».proof.Proof.Run.CaseB

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 9600000 in
/-- The run of the body at the last point: the last block is written out and nothing else is touched.
    The lists are the pieces it stores into each buffer, the last first; the statement says that on whole buffers
    the body ends with each buffer it stored into holding those pieces and every other buffer as it was. -/
noncomputable def kernelRun0_C (c : Dev nD) (i : grid0.Coords) (arg1 : Memref sig .tc .vmem S256x8192 .fp8e4m3) (harg1 : arg1.IsWhole) (arg2 : Memref sig .tc .vmem S1x1x256 .f32) (harg2 : arg2.IsWhole) (arg3 : Memref sig .tc .vmem S8192x4096 .fp8e4m3) (harg3 : arg3.IsWhole) (arg4 : Memref sig .tc .smem S64x32 .f32) (harg4 : arg4.IsWhole) (arg5 : Memref sig .tc .vmem S256x4096 .fp8e4m3) (harg5 : arg5.IsWhole) (arg6 : Memref sig .tc .vmem S1x1x256 .f32) (harg6 : arg6.IsWhole) (arg7 : Memref sig .tc .vmem S256x4096 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : ¬cond0_1 i) (hc2 : cond0_2 i)
    (x0 : Vec F S256x8192 .fp8e4m3) (x1 : Vec F S1x1x256 .f32) (x2 : Vec F S8192x4096 .fp8e4m3) (x3 : Vec F S64x32 .f32) (x5 : Vec F S1x1x256 .f32) (xs0 : Vec F S256x4096 .f32) (xs1 : Vec F S256x128 .f32) (xs2 : Vec F S256x128 .f32) :
    { L4 : List (View.Piece (Elt F) S256x4096 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare x5 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_fp8_linear_requant i arg1 harg1 arg2 harg2 arg3 harg3 arg4 harg4 arg5 harg5 arg6 harg6 arg7 harg7 arg8 harg8 arg9 harg9) K } := by
  refine ⟨?_, fun E K => ?run⟩
  case run =>
    simp only [cc0_fp8_linear_requant_eq_skeleton]; unfold cc0_fp8_linear_requant_skel
    rw [dif_neg (show ¬(k0_cond2 i = 1#1) from hc1)]
    simp only [k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Run

end
-- ==== Proof.Run.Frame.lean ====
/- The idealized program's frame: what each buffer holds after each grid point, the body obligation, the run. -/
module

public import proofs.«01_k».proof.Proof.Run.CaseC
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point, a middle point and the last point of the grid, by the body's three branch conditions. -/
theorem pt_first {t : Fin cfg0.N} (h : t.val = 0) : cond0_0 (grid0.coords t) ∧ cond0_1 (grid0.coords t) ∧ ¬cond0_2 (grid0.coords t) :=
  ⟨(hcond0_0 t).mpr (by omega), (hcond0_1 t).mpr (by omega), fun h' => by have := (hcond0_2 t).mp h'; omega⟩
theorem pt_mid {t : Fin cfg0.N} (h : t.val ≠ 0) (h' : t.val < 96) :
    ¬cond0_0 (grid0.coords t) ∧ cond0_1 (grid0.coords t) ∧ ¬cond0_2 (grid0.coords t) :=
  ⟨fun e => by have := (hcond0_0 t).mp e; omega, (hcond0_1 t).mpr h', fun e => by have := (hcond0_2 t).mp e; omega⟩
theorem pt_last {t : Fin cfg0.N} (h' : ¬t.val < 96) :
    ¬cond0_0 (grid0.coords t) ∧ ¬cond0_1 (grid0.coords t) ∧ cond0_2 (grid0.coords t) :=
  have hN : t.val < 97 := lt_of_lt_of_eq t.isLt (show cfg0.N = 97 from N_0)
  ⟨fun e => by have := (hcond0_0 t).mp e; omega, fun e => h' ((hcond0_1 t).mp e), (hcond0_2 t).mpr (by omega)⟩

/-- What the two output buffers and the three scratch buffers hold: the codes' block, the scales' block, the products,
    the tokens' scales and the inverse powers of two. -/
abbrev St (F : FTy → Type) [FloatOps F] := Vec F S256x4096 .fp8e4m3 × Vec F S1x1x256 .f32 × Vec F S256x4096 .f32 × Vec F S256x128 .f32 × Vec F S256x128 .f32

/-- The body's run at the first point. -/
abbrev runA (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) (pt_first h).1 (pt_first h).2.1 (pt_first h).2.2
    (iblk m c 0 t) (iblk m c 1 t) (iblk m c 2 t) (iblk m c 3 t)

/-- The body's run at a middle point, from what the point before left. -/
abbrev runB (c : Dev nD) (t : Fin cfg0.N) (h : t.val ≠ 0) (h' : t.val < 96) (s : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) (pt_mid h h').1 (pt_mid h h').2.1 (pt_mid h h').2.2
    (iblk m c 0 t) (iblk m c 1 t) (iblk m c 2 t) (iblk m c 3 t) s.2.2.1 s.2.2.2.1 s.2.2.2.2

/-- The body's run at the last point, from what the point before left. -/
abbrev runC (c : Dev nD) (t : Fin cfg0.N) (h' : ¬t.val < 96) (s : St F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) (pt_last h').1 (pt_last h').2.1 (pt_last h').2.2
    (iblk m c 0 t) (iblk m c 1 t) (iblk m c 2 t) (iblk m c 3 t) s.2.1 s.2.2.1 s.2.2.2.1 s.2.2.2.2

/-! ## The stores cover the buffers they go to -/

theorem coverA4 (c : Dev nD) (t : Fin cfg0.N) (h : t.val = 0) (y : S256x4096.Idx) : ∃ pc ∈ (runA m c t h).1, y ∈ pc.1.set :=
  View.cover_of_tiledL (runA m c t h).1 S256x128.size (by sl_kernel_rfl) y
theorem coverA5 (c : Dev nD) (t : Fin cfg0.N) (h : t.val = 0) (y : S1x1x256.Idx) : ∃ pc ∈ (runA m c t h).2.1, y ∈ pc.1.set :=
  View.cover_of_tiledL (runA m c t h).2.1 S1x1x256.size (by sl_kernel_rfl) y
theorem coverAy (c : Dev nD) (t : Fin cfg0.N) (h : t.val = 0) (y : S256x4096.Idx) : ∃ pc ∈ (runA m c t h).2.2.1, y ∈ pc.1.set :=
  View.cover_of_wholeMem (runA m c t h).2.2.1 (by sl_whole_mem) y
theorem coverAs (c : Dev nD) (t : Fin cfg0.N) (h : t.val = 0) (y : S256x128.Idx) : ∃ pc ∈ (runA m c t h).2.2.2.1, y ∈ pc.1.set :=
  View.cover_of_wholeMem (runA m c t h).2.2.2.1 (by sl_whole_mem) y
theorem coverAi (c : Dev nD) (t : Fin cfg0.N) (h : t.val = 0) (y : S256x128.Idx) : ∃ pc ∈ (runA m c t h).2.2.2.2.1, y ∈ pc.1.set :=
  View.cover_of_wholeMem (runA m c t h).2.2.2.2.1 (by sl_whole_mem) y
theorem coverB4 (c : Dev nD) (t : Fin cfg0.N) (h : t.val ≠ 0) (h' : t.val < 96) (s : St F) (y : S256x4096.Idx) : ∃ pc ∈ (runB m c t h h' s).1, y ∈ pc.1.set :=
  View.cover_of_tiledL (runB m c t h h' s).1 S256x128.size (by sl_kernel_rfl) y
theorem coverB5 (c : Dev nD) (t : Fin cfg0.N) (h : t.val ≠ 0) (h' : t.val < 96) (s : St F) (y : S1x1x256.Idx) : ∃ pc ∈ (runB m c t h h' s).2.1, y ∈ pc.1.set :=
  View.cover_of_tiledL (runB m c t h h' s).2.1 S1x1x256.size (by sl_kernel_rfl) y
theorem coverBy (c : Dev nD) (t : Fin cfg0.N) (h : t.val ≠ 0) (h' : t.val < 96) (s : St F) (y : S256x4096.Idx) : ∃ pc ∈ (runB m c t h h' s).2.2.1, y ∈ pc.1.set :=
  View.cover_of_tiledL (runB m c t h h' s).2.2.1 S256x512.size (by sl_kernel_rfl) y
theorem coverBs (c : Dev nD) (t : Fin cfg0.N) (h : t.val ≠ 0) (h' : t.val < 96) (s : St F) (y : S256x128.Idx) : ∃ pc ∈ (runB m c t h h' s).2.2.2.1, y ∈ pc.1.set :=
  View.cover_of_tiledL (runB m c t h h' s).2.2.2.1 S256x128.size (by sl_kernel_rfl) y
theorem coverBi (c : Dev nD) (t : Fin cfg0.N) (h : t.val ≠ 0) (h' : t.val < 96) (s : St F) (y : S256x128.Idx) : ∃ pc ∈ (runB m c t h h' s).2.2.2.2.1, y ∈ pc.1.set :=
  View.cover_of_tiledL (runB m c t h h' s).2.2.2.2.1 S256x128.size (by sl_kernel_rfl) y
theorem coverC4 (c : Dev nD) (t : Fin cfg0.N) (h' : ¬t.val < 96) (s : St F) (y : S256x4096.Idx) : ∃ pc ∈ (runC m c t h' s).1, y ∈ pc.1.set :=
  View.cover_of_tiledL (runC m c t h' s).1 S256x128.size (by sl_kernel_rfl) y

/-! ## What the buffers hold after each point -/

/-- The pieces a run stores, read back off a buffer they cover. -/
def stepA (c : Dev nD) (t : Fin cfg0.N) (h : t.val = 0) : St F :=
  (VO0_4.read (Elt F) (VO0_4.writes (Elt F) VO0_4.junk (runA m c t h).1), VO0_5.read (Elt F) (VO0_5.writes (Elt F) VO0_5.junk (runA m c t h).2.1),
   VS0_0.read (Elt F) (VS0_0.writes (Elt F) VS0_0.junk (runA m c t h).2.2.1), VS0_1.read (Elt F) (VS0_1.writes (Elt F) VS0_1.junk (runA m c t h).2.2.2.1),
   VS0_2.read (Elt F) (VS0_2.writes (Elt F) VS0_2.junk (runA m c t h).2.2.2.2.1))
def stepB (c : Dev nD) (t : Fin cfg0.N) (h : t.val ≠ 0) (h' : t.val < 96) (s : St F) : St F :=
  (VO0_4.read (Elt F) (VO0_4.writes (Elt F) VO0_4.junk (runB m c t h h' s).1), VO0_5.read (Elt F) (VO0_5.writes (Elt F) VO0_5.junk (runB m c t h h' s).2.1),
   VS0_0.read (Elt F) (VS0_0.writes (Elt F) VS0_0.junk (runB m c t h h' s).2.2.1), VS0_1.read (Elt F) (VS0_1.writes (Elt F) VS0_1.junk (runB m c t h h' s).2.2.2.1),
   VS0_2.read (Elt F) (VS0_2.writes (Elt F) VS0_2.junk (runB m c t h h' s).2.2.2.2.1))
def stepC (c : Dev nD) (t : Fin cfg0.N) (h' : ¬t.val < 96) (s : St F) : St F :=
  (VO0_4.read (Elt F) (VO0_4.writes (Elt F) VO0_4.junk (runC m c t h' s).1), s.2)

/-- The buffers' contents after the body at point `n`. -/
def stateAt (c : Dev nD) : (n : ℕ) → n < cfg0.N → St F
  | 0, hn => stepA m c ⟨0, hn⟩ rfl
  | n + 1, hn =>
    if h' : n + 1 < 96 then stepB m c ⟨n + 1, hn⟩ (Nat.succ_ne_zero n) h' (stateAt c n (Nat.lt_of_succ_lt hn))
    else stepC m c ⟨n + 1, hn⟩ h' (stateAt c n (Nat.lt_of_succ_lt hn))

/-- What the point before `t` left. -/
abbrev prevAt (c : Dev nD) (t : Fin cfg0.N) : St F := stateAt m c (t.val - 1) (Nat.lt_of_le_of_lt (Nat.sub_le _ _) t.isLt)

theorem stateAt_first (c : Dev nD) (t : Fin cfg0.N) (h : t.val = 0) : stateAt m c t.val t.isLt = stepA m c t h := by
  obtain ⟨n, hn⟩ := t
  obtain rfl : n = 0 := h
  rfl
theorem stateAt_mid (c : Dev nD) (t : Fin cfg0.N) (h : t.val ≠ 0) (h' : t.val < 96) :
    stateAt m c t.val t.isLt = stepB m c t h h' (prevAt m c t) := by
  obtain ⟨n, hn⟩ := t
  cases n with
  | zero => exact absurd rfl h
  | succ n => exact dif_pos h'
theorem stateAt_last (c : Dev nD) (t : Fin cfg0.N) (h' : ¬t.val < 96) :
    stateAt m c t.val t.isLt = stepC m c t h' (prevAt m c t) := by
  obtain ⟨n, hn⟩ := t
  cases n with
  | zero => exact absurd (by simp only; omega) h'
  | succ n => exact dif_neg h'

/-- Before the first point the scratch holds anything; after point `n` it holds that point's contents. -/
def PhiS (c : Dev nD) : (n : ℕ) → n ≤ cfg0.N → sProp 𝕄
  | 0, _ => Pipeline.ΦA spec0 c
  | n + 1, hn => iprop(iprop(owns (c : Thread nD τ) scM0_0 fullShare ((stateAt m c n hn).2.2.1) ∗ owns (c : Thread nD τ) scM0_1 fullShare ((stateAt m c n hn).2.2.2.1) ∗ owns (c : Thread nD τ) scM0_2 fullShare ((stateAt m c n hn).2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((stateAt m c n hn).2.2.1) ∗ owns (c : Thread nD τ) scM0_1 fullShare ((stateAt m c n hn).2.2.2.1) ∗ owns (c : Thread nD τ) scM0_2 fullShare ((stateAt m c n hn).2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((stateAt m c (n - 1) (by omega)).2.2.1) ∗ owns (c : Thread nD τ) scM0_1 fullShare ((stateAt m c (n - 1) (by omega)).2.2.2.1) ∗ owns (c : Thread nD τ) scM0_2 fullShare ((stateAt m c (n - 1) (by omega)).2.2.2.2)) ∗ (∃ r, prngReg c r)) := by
  cases n with
  | zero => exact absurd rfl hz
  | succ n => rfl

/-! ## The pipeline's proof data -/

/-- The arrays as the region finds them; after the body each input's buffer at its block and each output's at the
    contents above; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t.val t.isLt).1
    | ⟨5, _⟩ => (stateAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (stateAt m c t.val t.isLt).1 := by dsimp only [dats]
theorem after0_5 (c : Dev nD) (t : Fin cfg0.N) : (dats m 0 c).after 5 t = (stateAt m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The scales' buffer is not written back before the last point ... -/
theorem flush5_prev : ∀ t : Fin cfg0.N, ¬t.val < 96 → (cfg0.win 5).flush ⟨t.val - 1, Nat.lt_of_le_of_lt (Nat.sub_le _ _) t.isLt⟩ = false := by
  decide +kernel
theorem flush5_last : ∀ t : Fin cfg0.N, ¬t.val < 96 → (cfg0.win 5).flush t = true := by
  decide +kernel
theorem live5_prev : ∀ t : Fin cfg0.N, ¬t.val < 96 → cfg0.idle 5 (cfg0.grid.coords ⟨t.val - 1, Nat.lt_of_le_of_lt (Nat.sub_le _ _) t.isLt⟩) = false := by
  decide +kernel
/-- ... so there it still holds what the point before left. -/
theorem before0_5_last (c : Dev nD) (t : Fin cfg0.N) (h' : ¬t.val < 96) (d) : (dats m 0 c).before 5 t d = (prevAt m c t).2.1 := by
  have ht : t.val ≠ 0 := by omega
  rw [(dats m 0 c).before_of_pos 5 t ht ((cfg0.win 5).fetch_out rfl t), flush5_prev t h', if_neg Bool.false_ne_true]
  unfold Dat.left; rw [live5_prev t h']
  show (dats m 0 c).kept 5 _ d = _
  unfold Dat.kept
  rw [Pipeline.fill_of_clip_none (cfg := cfg0) 5 _ (fun _ => rfl) d ((dats m 0 c).after 5 _), Pipeline.Window.fill_cut, after0_5]

/-! ## The body obligation -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem live4 : ∀ t : Fin cfg0.N, cfg0.idle 4 (grid0.coords t) = false := by decide +kernel
theorem live5 : ∀ t : Fin cfg0.N, t.val < 96 → cfg0.idle 5 (grid0.coords t) = false := by decide +kernel
theorem leaves4 (c : Dev nD) (t : Fin cfg0.N) : (dats m 0 c).leavesExact 4 t = owns (c : Thread nD τ) (ms0_4 t) fullShare ((stateAt m c t.val t.isLt).1) := by
  unfold Dat.leavesExact; rw [live4 t, after0_4]
theorem leaves5 (c : Dev nD) (t : Fin cfg0.N) : (dats m 0 c).leavesExact 5 t = owns (c : Thread nD τ) (ms0_5 t) fullShare ((stateAt m c t.val t.isLt).2.1) := by
  by_cases h' : t.val < 96
  · unfold Dat.leavesExact; rw [live5 t h', after0_5]
  · unfold Dat.leavesExact
    rw [idleAt0_5_C t (pt_last h').1 (pt_last h').2.1 (pt_last h').2.2, flush5_last t h', after0_5]

set_option maxHeartbeats 9600000 in
/-- The body at any point: which of the three runs applies is the point's position; the run takes the input blocks and
    what the point before left, and leaves this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5]
  by_cases h0 : t.val = 0
  · rw [PhiS_castSucc m c t, PhiS_zero m c _ _ h0, PhiA0_eq, stateAt_first m c t h0]
    unfold stepA; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runA m c t h0).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, ⟨%e4, H4⟩, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverAy m c t h0)
        isplitl [HS1]
        · unfold owns; iexists _; isplitr
          swap; · iexact HS1
          ipureintro; exact View.read_writes_of_cover _ _ _ _ _ (coverAs m c t h0)
        unfold owns; iexists _; isplitr
        swap; · iexact HS2
        ipureintro; exact View.read_writes_of_cover _ _ _ _ _ (coverAi m c t h0)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 m c t h0)
    unfold owns; iexists _; isplitr
    swap; · iexact H5
    ipureintro; exact View.read_writes_of_cover _ _ _ _ _ (coverA5 m c t h0)
  by_cases h' : t.val < 96
  · rw [PhiS_castSucc m c t, PhiS_pos m c _ _ h0, stateAt_mid m c t h0 h']
    unfold stepB; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runB m c t h0 h' (prevAt m c t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, ⟨%e4, H4⟩, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverBy m c t h0 h' _)
        isplitl [HS1]
        · unfold owns; iexists _; isplitr
          swap; · iexact HS1
          ipureintro; exact View.read_writes_of_cover _ _ _ _ _ (coverBs m c t h0 h' _)
        unfold owns; iexists _; isplitr
        swap; · iexact HS2
        ipureintro; exact View.read_writes_of_cover _ _ _ _ _ (coverBi m c t h0 h' _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4 m c t h0 h' _)
    unfold owns; iexists _; isplitr
    swap; · iexact H5
    ipureintro; exact View.read_writes_of_cover _ _ _ _ _ (coverB5 m c t h0 h' _)
  · rw [PhiS_castSucc m c t, PhiS_pos m c _ _ h0, stateAt_last m c t h']
    simp only [before0_5_last m c t h']
    unfold stepC; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runC m c t h' (prevAt m c t)).2 Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    isplitl [HS2]; · iexact HS2
    iintro ⟨H0, H1, H2, H3, ⟨%e4, H4⟩, H5, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverC4 m c t h' _)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 97 := N_0; omega)

/-! ## The run and the frame -/

set_option backward.isDefEq.respectTransparency.types false in
/-- The program runs to its end with every array at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the program ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.RunKernel.Points.lean ====
/- What the runs of the kernel body share: its branch conditions over the grid points, where its windows are
   idle, and its staging and scratch memrefs. -/
module

public import proofs.«01_k».proof.Proof.Gen.Kernel.Frame
public import proofs.«01_k».proof.Proof.Gen.Kernel.Skeleton

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 97 = 0 :=
  (fun t => by
    have ht : t.val < 97 := Nat.lt_of_lt_of_eq t.isLt N_0
    have e0 : (grid0.coords t 0).val = t.val / 1 % 97 := Pipeline.Grid.coords_val t 0 (by decide) rfl
    simp only [cond0_0, e0]
    word_cmp
   : ∀ t : Fin grid0.N, cond0_0 (grid0.coords t) ↔ t.val % 97 = 0)

/-- The condition of the body's `scf.if` 1 (`k0_h2`), from the grid coordinates (the skeleton's scalar
    chain substituted). -/
abbrev cond0_1 (i : grid0.Coords) : Prop := k0_cond2 i = 1#1
/-- It holds at the points before point 96 — decided over the grid. -/
theorem hcond0_1 : ∀ t : Fin cfg0.N, cond0_1 (grid0.coords t) ↔ t.val < 96 :=
  (by decide +kernel : ∀ t : Fin grid0.N, cond0_1 (grid0.coords t) ↔ t.val < 96)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 97 = 96 :=
  (fun t => by
    have ht : t.val < 97 := Nat.lt_of_lt_of_eq t.isLt N_0
    have e0 : (grid0.coords t 0).val = t.val / 1 % 97 := Pipeline.Grid.coords_val t 0 (by decide) rfl
    simp only [cond0_2, k0_cond3, e0]
    word_cmp
   : ∀ t : Fin grid0.N, cond0_2 (grid0.coords t) ↔ t.val % 97 = 96)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 live: the case stores into it. -/
theorem liveAt0_4_A : ∀ t : Fin cfg0.N, cond0_0 (grid0.coords t) → cond0_1 (grid0.coords t) → ¬cond0_2 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → ¬cond0_2 (grid0.coords t) → cfg0.idle 4 (grid0.coords t) = false := by decide +kernel
/-- At the points of case C the printed configuration (`Cfg.idle`) calls output 4 live: the case stores into it. -/
theorem liveAt0_4_C : ∀ t : Fin cfg0.N, ¬cond0_0 (grid0.coords t) → ¬cond0_1 (grid0.coords t) → cond0_2 (grid0.coords t) → cfg0.idle 4 (grid0.coords t) = false := by decide +kernel
/-- At the points of case A the printed configuration (`Cfg.idle`) calls output 5 live: the case stores into it. -/
theorem liveAt0_5_A : ∀ t : Fin cfg0.N, cond0_0 (grid0.coords t) → cond0_1 (grid0.coords t) → ¬cond0_2 (grid0.coords t) → cfg0.idle 5 (grid0.coords t) = false := by decide +kernel
/-- At the points of case B the printed configuration (`Cfg.idle`) calls output 5 live: the case stores into it. -/
theorem liveAt0_5_B : ∀ t : Fin cfg0.N, ¬cond0_0 (grid0.coords t) → cond0_1 (grid0.coords t) → ¬cond0_2 (grid0.coords t) → cfg0.idle 5 (grid0.coords t) = false := by decide +kernel
/-- At the last point nothing is stored into output 5: the configuration calls it idle there. -/
theorem idleAt0_5_C : ∀ t : Fin cfg0.N, ¬cond0_0 (grid0.coords t) → ¬cond0_1 (grid0.coords t) → cond0_2 (grid0.coords t) → cfg0.idle 5 (grid0.coords t) = true := by decide +kernel

/-! ## The kernel body on any staging memrefs: a subtype the run finds -/

/-- One staging buffer of output window 4, through which its contents are stated (`View.read_writes_of_cover`: the
    choice does not matter). -/
abbrev VO0_4 : View sig .tc .vmem S256x4096 .fp8e4m3 := (Memref.whole cc0_stg4_0 : Memref sig .tc .vmem S256x4096 .fp8e4m3).view
/-- One staging buffer of output window 5, through which its contents are stated (`View.read_writes_of_cover`: the
    choice does not matter). -/
abbrev VO0_5 : View sig .tc .vmem S1x1x256 .f32 := (Memref.whole cc0_stg5_0 : Memref sig .tc .vmem S1x1x256 .f32).view
/-- Each window's current staging memref at point `t`, spelled as the pipeline passes it (`bodyAt0`), and its wholeness. -/
abbrev ms0_0 (t : Fin cfg0.N) : Memref sig .tc .vmem S256x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S64x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x4096 .f32 := Memref.whole cc0_scratch0
abbrev scM0_1 : Memref sig .tc .vmem S256x128 .f32 := Memref.whole cc0_scratch1
abbrev scM0_2 : Memref sig .tc .vmem S256x128 .f32 := Memref.whole cc0_scratch2
/-- The scratch `arg7` the kernel carries between points, as a view: what it holds is stated through it. -/
abbrev VS0_0 : View sig .tc .vmem S256x4096 .f32 := scM0_0.view
/-- The scratch `arg8` the kernel carries between points, as a view: what it holds is stated through it. -/
abbrev VS0_1 : View sig .tc .vmem S256x128 .f32 := scM0_1.view
/-- The scratch `arg9` the kernel carries between points, as a view: what it holds is stated through it. -/
abbrev VS0_2 : View sig .tc .vmem S256x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Run

end
-- ==== Proof.RunKernel.CaseA.lean ====
/- The run of the kernel body at the first point: the scratch is zeroed, then read back as the block before the first. -/
module

public import proofs.«01_k».proof.Proof.RunKernel.Points

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 21408000 in
/-- The run of the body at the first point: the scratch is zeroed, then read back as the block before the first.
    The lists are the pieces it stores into each buffer, the last first; the statement says that on whole buffers
    the body ends with each buffer it stored into holding those pieces and every other buffer as it was. -/
noncomputable def kernelRun0_A (c : Dev nD) (i : grid0.Coords) (arg1 : Memref sig .tc .vmem S256x8192 .fp8e4m3) (harg1 : arg1.IsWhole) (arg2 : Memref sig .tc .vmem S1x1x256 .f32) (harg2 : arg2.IsWhole) (arg3 : Memref sig .tc .vmem S8192x4096 .fp8e4m3) (harg3 : arg3.IsWhole) (arg4 : Memref sig .tc .smem S64x32 .f32) (harg4 : arg4.IsWhole) (arg5 : Memref sig .tc .vmem S256x4096 .fp8e4m3) (harg5 : arg5.IsWhole) (arg6 : Memref sig .tc .vmem S1x1x256 .f32) (harg6 : arg6.IsWhole) (arg7 : Memref sig .tc .vmem S256x4096 .f32) (harg7 : arg7.IsWhole) (arg8 : Memref sig .tc .vmem S256x128 .f32) (harg8 : arg8.IsWhole) (arg9 : Memref sig .tc .vmem S256x128 .f32) (harg9 : arg9.IsWhole) (hc0 : cond0_0 i) (hc1 : cond0_1 i) (hc2 : ¬cond0_2 i)
    (x0 : Vec F S256x8192 .fp8e4m3) (x1 : Vec F S1x1x256 .f32) (x2 : Vec F S8192x4096 .fp8e4m3) (x3 : Vec F S64x32 .f32) :
    Σ' (L4 : List (View.Piece (Elt F) S256x4096 .fp8e4m3)), Σ' (L5 : List (View.Piece (Elt F) S1x1x256 .f32)), Σ' (LS0 : List (View.Piece (Elt F) S256x4096 .f32)), Σ' (LS1 : List (View.Piece (Elt F) S256x128 .f32)), { LS2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_fp8_linear_requant i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_fp8_linear_requant_eq_skeleton]; unfold cc0_fp8_linear_requant_skel
    simp only [k0_part404_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part405_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part406_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part407_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part408_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part409_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    isplitl [HS1]; · iexists _; iexact HS1
    iexists _; iexact HS2

end Cert.Kernel.Run

end
-- ==== Proof.RunKernel.CaseB.lean ====
/- The run of the kernel body at the middle points: the block before is written out, this one is computed. -/
module

public import proofs.«01_k».proof.Proof.RunKernel.CaseA

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 21372000 in
/-- The run of the body at the middle points: the block before is written out, this one is computed.
    The lists are the pieces it stores into each buffer, the last first; the statement says that on whole buffers
    the body ends with each buffer it stored into holding those pieces and every other buffer as it was. -/
noncomputable def kernelRun0_B (c : Dev nD) (i : grid0.Coords) (arg1 : Memref sig .tc .vmem S256x8192 .fp8e4m3) (harg1 : arg1.IsWhole) (arg2 : Memref sig .tc .vmem S1x1x256 .f32) (harg2 : arg2.IsWhole) (arg3 : Memref sig .tc .vmem S8192x4096 .fp8e4m3) (harg3 : arg3.IsWhole) (arg4 : Memref sig .tc .smem S64x32 .f32) (harg4 : arg4.IsWhole) (arg5 : Memref sig .tc .vmem S256x4096 .fp8e4m3) (harg5 : arg5.IsWhole) (arg6 : Memref sig .tc .vmem S1x1x256 .f32) (harg6 : arg6.IsWhole) (arg7 : Memref sig .tc .vmem S256x4096 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : cond0_1 i) (hc2 : ¬cond0_2 i)
    (x0 : Vec F S256x8192 .fp8e4m3) (x1 : Vec F S1x1x256 .f32) (x2 : Vec F S8192x4096 .fp8e4m3) (x3 : Vec F S64x32 .f32) (xs0 : Vec F S256x4096 .f32) (xs1 : Vec F S256x128 .f32) (xs2 : Vec F S256x128 .f32) :
    Σ' (L4 : List (View.Piece (Elt F) S256x4096 .fp8e4m3)), Σ' (L5 : List (View.Piece (Elt F) S1x1x256 .f32)), Σ' (LS0 : List (View.Piece (Elt F) S256x4096 .f32)), Σ' (LS1 : List (View.Piece (Elt F) S256x128 .f32)), { LS2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_fp8_linear_requant i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_fp8_linear_requant_eq_skeleton]; unfold cc0_fp8_linear_requant_skel
    simp only [k0_part404_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part405_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part406_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part407_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part408_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part409_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    isplitl [HS1]; · iexists _; iexact HS1
    iexists _; iexact HS2

end Cert.Kernel.Run

end
-- ==== Proof.RunKernel.CaseC.lean ====
/- The run of the kernel body at the last point: the last block is written out and nothing else is touched. -/
module

public import proofs.«01_k».proof.Proof.RunKernel.CaseB

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 9600000 in
/-- The run of the body at the last point: the last block is written out and nothing else is touched.
    The lists are the pieces it stores into each buffer, the last first; the statement says that on whole buffers
    the body ends with each buffer it stored into holding those pieces and every other buffer as it was. -/
noncomputable def kernelRun0_C (c : Dev nD) (i : grid0.Coords) (arg1 : Memref sig .tc .vmem S256x8192 .fp8e4m3) (harg1 : arg1.IsWhole) (arg2 : Memref sig .tc .vmem S1x1x256 .f32) (harg2 : arg2.IsWhole) (arg3 : Memref sig .tc .vmem S8192x4096 .fp8e4m3) (harg3 : arg3.IsWhole) (arg4 : Memref sig .tc .smem S64x32 .f32) (harg4 : arg4.IsWhole) (arg5 : Memref sig .tc .vmem S256x4096 .fp8e4m3) (harg5 : arg5.IsWhole) (arg6 : Memref sig .tc .vmem S1x1x256 .f32) (harg6 : arg6.IsWhole) (arg7 : Memref sig .tc .vmem S256x4096 .f32) (harg7 : arg7.IsWhole) (arg8 : Memref sig .tc .vmem S256x128 .f32) (harg8 : arg8.IsWhole) (arg9 : Memref sig .tc .vmem S256x128 .f32) (harg9 : arg9.IsWhole) (hc0 : ¬cond0_0 i) (hc1 : ¬cond0_1 i) (hc2 : cond0_2 i)
    (x0 : Vec F S256x8192 .fp8e4m3) (x1 : Vec F S1x1x256 .f32) (x2 : Vec F S8192x4096 .fp8e4m3) (x3 : Vec F S64x32 .f32) (x5 : Vec F S1x1x256 .f32) (xs0 : Vec F S256x4096 .f32) (xs1 : Vec F S256x128 .f32) (xs2 : Vec F S256x128 .f32) :
    { L4 : List (View.Piece (Elt F) S256x4096 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare x5 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_fp8_linear_requant i arg1 harg1 arg2 harg2 arg3 harg3 arg4 harg4 arg5 harg5 arg6 harg6 arg7 harg7 arg8 harg8 arg9 harg9) K } := by
  refine ⟨?_, fun E K => ?run⟩
  case run =>
    simp only [cc0_fp8_linear_requant_eq_skeleton]; unfold cc0_fp8_linear_requant_skel
    rw [dif_neg (show ¬(k0_cond2 i = 1#1) from hc1)]
    simp only [k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Run

end
-- ==== Proof.RunKernel.Frame.lean ====
/- The program's frame: what each buffer holds after each grid point, the body obligation, the run. -/
module

public import proofs.«01_k».proof.Proof.RunKernel.CaseC
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point, a middle point and the last point of the grid, by the body's three branch conditions. -/
theorem pt_first {t : Fin cfg0.N} (h : t.val = 0) : cond0_0 (grid0.coords t) ∧ cond0_1 (grid0.coords t) ∧ ¬cond0_2 (grid0.coords t) :=
  ⟨(hcond0_0 t).mpr (by omega), (hcond0_1 t).mpr (by omega), fun h' => by have := (hcond0_2 t).mp h'; omega⟩
theorem pt_mid {t : Fin cfg0.N} (h : t.val ≠ 0) (h' : t.val < 96) :
    ¬cond0_0 (grid0.coords t) ∧ cond0_1 (grid0.coords t) ∧ ¬cond0_2 (grid0.coords t) :=
  ⟨fun e => by have := (hcond0_0 t).mp e; omega, (hcond0_1 t).mpr h', fun e => by have := (hcond0_2 t).mp e; omega⟩
theorem pt_last {t : Fin cfg0.N} (h' : ¬t.val < 96) :
    ¬cond0_0 (grid0.coords t) ∧ ¬cond0_1 (grid0.coords t) ∧ cond0_2 (grid0.coords t) :=
  have hN : t.val < 97 := lt_of_lt_of_eq t.isLt (show cfg0.N = 97 from N_0)
  ⟨fun e => by have := (hcond0_0 t).mp e; omega, fun e => h' ((hcond0_1 t).mp e), (hcond0_2 t).mpr (by omega)⟩

/-- What the two output buffers and the three scratch buffers hold: the codes' block, the scales' block, the products,
    the tokens' scales and the inverse powers of two. -/
abbrev St (F : FTy → Type) [FloatOps F] := Vec F S256x4096 .fp8e4m3 × Vec F S1x1x256 .f32 × Vec F S256x4096 .f32 × Vec F S256x128 .f32 × Vec F S256x128 .f32

/-- The body's run at the first point. -/
abbrev runA (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) (pt_first h).1 (pt_first h).2.1 (pt_first h).2.2
    (iblk m c 0 t) (iblk m c 1 t) (iblk m c 2 t) (iblk m c 3 t)

/-- The body's run at a middle point, from what the point before left. -/
abbrev runB (c : Dev nD) (t : Fin cfg0.N) (h : t.val ≠ 0) (h' : t.val < 96) (s : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) (pt_mid h h').1 (pt_mid h h').2.1 (pt_mid h h').2.2
    (iblk m c 0 t) (iblk m c 1 t) (iblk m c 2 t) (iblk m c 3 t) s.2.2.1 s.2.2.2.1 s.2.2.2.2

/-- The body's run at the last point, from what the point before left. -/
abbrev runC (c : Dev nD) (t : Fin cfg0.N) (h' : ¬t.val < 96) (s : St F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) (pt_last h').1 (pt_last h').2.1 (pt_last h').2.2
    (iblk m c 0 t) (iblk m c 1 t) (iblk m c 2 t) (iblk m c 3 t) s.2.1 s.2.2.1 s.2.2.2.1 s.2.2.2.2

/-! ## The stores cover the buffers they go to -/

theorem coverA4 (c : Dev nD) (t : Fin cfg0.N) (h : t.val = 0) (y : S256x4096.Idx) : ∃ pc ∈ (runA m c t h).1, y ∈ pc.1.set :=
  View.cover_of_tiledL (runA m c t h).1 S256x128.size (by sl_kernel_rfl) y
theorem coverA5 (c : Dev nD) (t : Fin cfg0.N) (h : t.val = 0) (y : S1x1x256.Idx) : ∃ pc ∈ (runA m c t h).2.1, y ∈ pc.1.set :=
  View.cover_of_tiledL (runA m c t h).2.1 S1x1x256.size (by sl_kernel_rfl) y
theorem coverAy (c : Dev nD) (t : Fin cfg0.N) (h : t.val = 0) (y : S256x4096.Idx) : ∃ pc ∈ (runA m c t h).2.2.1, y ∈ pc.1.set :=
  View.cover_of_wholeMem (runA m c t h).2.2.1 (by sl_whole_mem) y
theorem coverAs (c : Dev nD) (t : Fin cfg0.N) (h : t.val = 0) (y : S256x128.Idx) : ∃ pc ∈ (runA m c t h).2.2.2.1, y ∈ pc.1.set :=
  View.cover_of_wholeMem (runA m c t h).2.2.2.1 (by sl_whole_mem) y
theorem coverAi (c : Dev nD) (t : Fin cfg0.N) (h : t.val = 0) (y : S256x128.Idx) : ∃ pc ∈ (runA m c t h).2.2.2.2.1, y ∈ pc.1.set :=
  View.cover_of_wholeMem (runA m c t h).2.2.2.2.1 (by sl_whole_mem) y
theorem coverB4 (c : Dev nD) (t : Fin cfg0.N) (h : t.val ≠ 0) (h' : t.val < 96) (s : St F) (y : S256x4096.Idx) : ∃ pc ∈ (runB m c t h h' s).1, y ∈ pc.1.set :=
  View.cover_of_tiledL (runB m c t h h' s).1 S256x128.size (by sl_kernel_rfl) y
theorem coverB5 (c : Dev nD) (t : Fin cfg0.N) (h : t.val ≠ 0) (h' : t.val < 96) (s : St F) (y : S1x1x256.Idx) : ∃ pc ∈ (runB m c t h h' s).2.1, y ∈ pc.1.set :=
  View.cover_of_tiledL (runB m c t h h' s).2.1 S1x1x256.size (by sl_kernel_rfl) y
theorem coverBy (c : Dev nD) (t : Fin cfg0.N) (h : t.val ≠ 0) (h' : t.val < 96) (s : St F) (y : S256x4096.Idx) : ∃ pc ∈ (runB m c t h h' s).2.2.1, y ∈ pc.1.set :=
  View.cover_of_tiledL (runB m c t h h' s).2.2.1 S256x512.size (by sl_kernel_rfl) y
theorem coverBs (c : Dev nD) (t : Fin cfg0.N) (h : t.val ≠ 0) (h' : t.val < 96) (s : St F) (y : S256x128.Idx) : ∃ pc ∈ (runB m c t h h' s).2.2.2.1, y ∈ pc.1.set :=
  View.cover_of_tiledL (runB m c t h h' s).2.2.2.1 S256x128.size (by sl_kernel_rfl) y
theorem coverBi (c : Dev nD) (t : Fin cfg0.N) (h : t.val ≠ 0) (h' : t.val < 96) (s : St F) (y : S256x128.Idx) : ∃ pc ∈ (runB m c t h h' s).2.2.2.2.1, y ∈ pc.1.set :=
  View.cover_of_tiledL (runB m c t h h' s).2.2.2.2.1 S256x128.size (by sl_kernel_rfl) y
theorem coverC4 (c : Dev nD) (t : Fin cfg0.N) (h' : ¬t.val < 96) (s : St F) (y : S256x4096.Idx) : ∃ pc ∈ (runC m c t h' s).1, y ∈ pc.1.set :=
  View.cover_of_tiledL (runC m c t h' s).1 S256x128.size (by sl_kernel_rfl) y

/-! ## What the buffers hold after each point -/

/-- The pieces a run stores, read back off a buffer they cover. -/
def stepA (c : Dev nD) (t : Fin cfg0.N) (h : t.val = 0) : St F :=
  (VO0_4.read (Elt F) (VO0_4.writes (Elt F) VO0_4.junk (runA m c t h).1), VO0_5.read (Elt F) (VO0_5.writes (Elt F) VO0_5.junk (runA m c t h).2.1),
   VS0_0.read (Elt F) (VS0_0.writes (Elt F) VS0_0.junk (runA m c t h).2.2.1), VS0_1.read (Elt F) (VS0_1.writes (Elt F) VS0_1.junk (runA m c t h).2.2.2.1),
   VS0_2.read (Elt F) (VS0_2.writes (Elt F) VS0_2.junk (runA m c t h).2.2.2.2.1))
def stepB (c : Dev nD) (t : Fin cfg0.N) (h : t.val ≠ 0) (h' : t.val < 96) (s : St F) : St F :=
  (VO0_4.read (Elt F) (VO0_4.writes (Elt F) VO0_4.junk (runB m c t h h' s).1), VO0_5.read (Elt F) (VO0_5.writes (Elt F) VO0_5.junk (runB m c t h h' s).2.1),
   VS0_0.read (Elt F) (VS0_0.writes (Elt F) VS0_0.junk (runB m c t h h' s).2.2.1), VS0_1.read (Elt F) (VS0_1.writes (Elt F) VS0_1.junk (runB m c t h h' s).2.2.2.1),
   VS0_2.read (Elt F) (VS0_2.writes (Elt F) VS0_2.junk (runB m c t h h' s).2.2.2.2.1))
def stepC (c : Dev nD) (t : Fin cfg0.N) (h' : ¬t.val < 96) (s : St F) : St F :=
  (VO0_4.read (Elt F) (VO0_4.writes (Elt F) VO0_4.junk (runC m c t h' s).1), s.2)

/-- The buffers' contents after the body at point `n`. -/
def stateAt (c : Dev nD) : (n : ℕ) → n < cfg0.N → St F
  | 0, hn => stepA m c ⟨0, hn⟩ rfl
  | n + 1, hn =>
    if h' : n + 1 < 96 then stepB m c ⟨n + 1, hn⟩ (Nat.succ_ne_zero n) h' (stateAt c n (Nat.lt_of_succ_lt hn))
    else stepC m c ⟨n + 1, hn⟩ h' (stateAt c n (Nat.lt_of_succ_lt hn))

/-- What the point before `t` left. -/
abbrev prevAt (c : Dev nD) (t : Fin cfg0.N) : St F := stateAt m c (t.val - 1) (Nat.lt_of_le_of_lt (Nat.sub_le _ _) t.isLt)

theorem stateAt_first (c : Dev nD) (t : Fin cfg0.N) (h : t.val = 0) : stateAt m c t.val t.isLt = stepA m c t h := by
  obtain ⟨n, hn⟩ := t
  obtain rfl : n = 0 := h
  rfl
theorem stateAt_mid (c : Dev nD) (t : Fin cfg0.N) (h : t.val ≠ 0) (h' : t.val < 96) :
    stateAt m c t.val t.isLt = stepB m c t h h' (prevAt m c t) := by
  obtain ⟨n, hn⟩ := t
  cases n with
  | zero => exact absurd rfl h
  | succ n => exact dif_pos h'
theorem stateAt_last (c : Dev nD) (t : Fin cfg0.N) (h' : ¬t.val < 96) :
    stateAt m c t.val t.isLt = stepC m c t h' (prevAt m c t) := by
  obtain ⟨n, hn⟩ := t
  cases n with
  | zero => exact absurd (by simp only; omega) h'
  | succ n => exact dif_neg h'

/-- Before the first point the scratch holds anything; after point `n` it holds that point's contents. -/
def PhiS (c : Dev nD) : (n : ℕ) → n ≤ cfg0.N → sProp 𝕄
  | 0, _ => Pipeline.ΦA spec0 c
  | n + 1, hn => iprop(iprop(owns (c : Thread nD τ) scM0_0 fullShare ((stateAt m c n hn).2.2.1) ∗ owns (c : Thread nD τ) scM0_1 fullShare ((stateAt m c n hn).2.2.2.1) ∗ owns (c : Thread nD τ) scM0_2 fullShare ((stateAt m c n hn).2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((stateAt m c n hn).2.2.1) ∗ owns (c : Thread nD τ) scM0_1 fullShare ((stateAt m c n hn).2.2.2.1) ∗ owns (c : Thread nD τ) scM0_2 fullShare ((stateAt m c n hn).2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((stateAt m c (n - 1) (by omega)).2.2.1) ∗ owns (c : Thread nD τ) scM0_1 fullShare ((stateAt m c (n - 1) (by omega)).2.2.2.1) ∗ owns (c : Thread nD τ) scM0_2 fullShare ((stateAt m c (n - 1) (by omega)).2.2.2.2)) ∗ (∃ r, prngReg c r)) := by
  cases n with
  | zero => exact absurd rfl hz
  | succ n => rfl

/-! ## The pipeline's proof data -/

/-- The arrays as the region finds them; after the body each input's buffer at its block and each output's at the
    contents above; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t.val t.isLt).1
    | ⟨5, _⟩ => (stateAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (stateAt m c t.val t.isLt).1 := by dsimp only [dats]
theorem after0_5 (c : Dev nD) (t : Fin cfg0.N) : (dats m 0 c).after 5 t = (stateAt m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The scales' buffer is not written back before the last point ... -/
theorem flush5_prev : ∀ t : Fin cfg0.N, ¬t.val < 96 → (cfg0.win 5).flush ⟨t.val - 1, Nat.lt_of_le_of_lt (Nat.sub_le _ _) t.isLt⟩ = false := by
  decide +kernel
theorem flush5_last : ∀ t : Fin cfg0.N, ¬t.val < 96 → (cfg0.win 5).flush t = true := by
  decide +kernel
theorem live5_prev : ∀ t : Fin cfg0.N, ¬t.val < 96 → cfg0.idle 5 (cfg0.grid.coords ⟨t.val - 1, Nat.lt_of_le_of_lt (Nat.sub_le _ _) t.isLt⟩) = false := by
  decide +kernel
/-- ... so there it still holds what the point before left. -/
theorem before0_5_last (c : Dev nD) (t : Fin cfg0.N) (h' : ¬t.val < 96) (d) : (dats m 0 c).before 5 t d = (prevAt m c t).2.1 := by
  have ht : t.val ≠ 0 := by omega
  rw [(dats m 0 c).before_of_pos 5 t ht ((cfg0.win 5).fetch_out rfl t), flush5_prev t h', if_neg Bool.false_ne_true]
  unfold Dat.left; rw [live5_prev t h']
  show (dats m 0 c).kept 5 _ d = _
  unfold Dat.kept
  rw [Pipeline.fill_of_clip_none (cfg := cfg0) 5 _ (fun _ => rfl) d ((dats m 0 c).after 5 _), Pipeline.Window.fill_cut, after0_5]

/-! ## The body obligation -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem live4 : ∀ t : Fin cfg0.N, cfg0.idle 4 (grid0.coords t) = false := by decide +kernel
theorem live5 : ∀ t : Fin cfg0.N, t.val < 96 → cfg0.idle 5 (grid0.coords t) = false := by decide +kernel
theorem leaves4 (c : Dev nD) (t : Fin cfg0.N) : (dats m 0 c).leavesExact 4 t = owns (c : Thread nD τ) (ms0_4 t) fullShare ((stateAt m c t.val t.isLt).1) := by
  unfold Dat.leavesExact; rw [live4 t, after0_4]
theorem leaves5 (c : Dev nD) (t : Fin cfg0.N) : (dats m 0 c).leavesExact 5 t = owns (c : Thread nD τ) (ms0_5 t) fullShare ((stateAt m c t.val t.isLt).2.1) := by
  by_cases h' : t.val < 96
  · unfold Dat.leavesExact; rw [live5 t h', after0_5]
  · unfold Dat.leavesExact
    rw [idleAt0_5_C t (pt_last h').1 (pt_last h').2.1 (pt_last h').2.2, flush5_last t h', after0_5]

set_option maxHeartbeats 9600000 in
/-- The body at any point: which of the three runs applies is the point's position; the run takes the input blocks and
    what the point before left, and leaves this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5]
  by_cases h0 : t.val = 0
  · rw [PhiS_castSucc m c t, PhiS_zero m c _ _ h0, PhiA0_eq, stateAt_first m c t h0]
    unfold stepA; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runA m c t h0).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, ⟨%e4, H4⟩, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverAy m c t h0)
        isplitl [HS1]
        · unfold owns; iexists _; isplitr
          swap; · iexact HS1
          ipureintro; exact View.read_writes_of_cover _ _ _ _ _ (coverAs m c t h0)
        unfold owns; iexists _; isplitr
        swap; · iexact HS2
        ipureintro; exact View.read_writes_of_cover _ _ _ _ _ (coverAi m c t h0)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 m c t h0)
    unfold owns; iexists _; isplitr
    swap; · iexact H5
    ipureintro; exact View.read_writes_of_cover _ _ _ _ _ (coverA5 m c t h0)
  by_cases h' : t.val < 96
  · rw [PhiS_castSucc m c t, PhiS_pos m c _ _ h0, stateAt_mid m c t h0 h']
    unfold stepB; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runB m c t h0 h' (prevAt m c t)).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, ⟨%e4, H4⟩, ⟨%e5, H5⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverBy m c t h0 h' _)
        isplitl [HS1]
        · unfold owns; iexists _; isplitr
          swap; · iexact HS1
          ipureintro; exact View.read_writes_of_cover _ _ _ _ _ (coverBs m c t h0 h' _)
        unfold owns; iexists _; isplitr
        swap; · iexact HS2
        ipureintro; exact View.read_writes_of_cover _ _ _ _ _ (coverBi m c t h0 h' _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4 m c t h0 h' _)
    unfold owns; iexists _; isplitr
    swap; · iexact H5
    ipureintro; exact View.read_writes_of_cover _ _ _ _ _ (coverB5 m c t h0 h' _)
  · rw [PhiS_castSucc m c t, PhiS_pos m c _ _ h0, stateAt_last m c t h']
    simp only [before0_5_last m c t h']
    unfold stepC; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((runC m c t h' (prevAt m c t)).2 Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HS1]; · iexact HS1
    isplitl [HS2]; · iexact HS2
    iintro ⟨H0, H1, H2, H3, ⟨%e4, H4⟩, H5, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverC4 m c t h' _)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 97 := N_0; omega)

/-! ## The run and the frame -/

set_option backward.isDefEq.respectTransparency.types false in
/-- The program runs to its end with every array at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the program ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.Value.Body.lean ====
/- What the body of the kernel computes, as functions of the blocks it reads: the scaled weight tiles, the partial
   products of one chunk of columns and their sum. -/
module

public import proofs.«01_k».proof.Proof.Run.CaseB
public import Idealize.ShloMosaic.Lib.WholeRead

@[expose] public section

set_option maxRecDepth 16384

noncomputable section

namespace Cert.KernelIdeal.Value

open Idealize.ShloMosaic Idealize.ShloMosaic.TcCoe Idealize.ShloMosaic.Tactic
open Cert.KernelIdeal.Gen Cert.KernelIdeal.Run

variable {F : FTy → Type} [FloatOps F]

section
variable (a1 : Memref sig .tc .vmem S256x8192 .fp8e4m3) (h1 : a1.IsWhole) (a3 : Memref sig .tc .vmem S8192x4096 .fp8e4m3) (h3 : a3.IsWhole)
  (a4 : Memref sig .tc .smem S64x32 .f32) (h4 : a4.IsWhole)
  (x0 : Vec F S256x8192 .fp8e4m3) (x2 : Vec F S8192x4096 .fp8e4m3) (x3 : Vec F S64x32 .f32)

theorem inbX (k : Fin 32) : ∀ a, (![0, 256 * k.val] : Fin 2 → Nat) a + S256x256.size a ≤ S256x8192.size a :=
  Fin.forall_fin_two.mpr ⟨by show 0 + 256 ≤ 256; omega, by show 256 * k.val + 256 ≤ 8192; omega⟩
theorem inbW (k : Fin 64) (n : Fin 32) : ∀ a, (![128 * k.val, 128 * n.val] : Fin 2 → Nat) a + S128x128.size a ≤ S8192x4096.size a :=
  Fin.forall_fin_two.mpr ⟨by show 128 * k.val + 128 ≤ 8192; omega, by show 128 * n.val + 128 ≤ 4096; omega⟩
theorem inbS (k : Fin 64) (n : Fin 32) : ∀ a, (![k.val, n.val] : Fin 2 → Nat) a + S1x1.size a ≤ S64x32.size a :=
  Fin.forall_fin_two.mpr ⟨by show k.val + 1 ≤ 64; omega, by show n.val + 1 ≤ 32; omega⟩

/-- The codes of 256 columns of the token block, in bf16. -/
def xT (k : Fin 32) : FVec F S256x256 .bf16 :=
  extf .bf16 (shapeCast S256x256 (View.readAt (Elt F) a1.view (Rect.unit (s := S256x8192) ![0, 256 * k.val] S256x256.size (inbX k)).toLoadRect (h1.unread x0)) shapeCasts_S256x256_S256x256) bitsLt_fp8e4m3_bf16
/-- The scale of one weight block. -/
def sT (k : Fin 64) (n : Fin 32) : Elt F .f32 :=
  View.readAt (Elt F) a4.view (Rect.unit (s := S64x32) ![k.val, n.val] S1x1.size (inbS k n)).toLoadRect (h4.unread x3) (Shape.Idx.first (show 0 < S1x1.numel by decide))
/-- One weight block with its scale, in bf16. -/
def wT (k : Fin 64) (n : Fin 32) : FVec F S128x128 .bf16 :=
  mulf (extf .bf16 (View.readAt (Elt F) a3.view (Rect.unit (s := S8192x4096) ![128 * k.val, 128 * n.val] S128x128.size (inbW k n)).toLoadRect (h3.unread x2)) bitsLt_fp8e4m3_bf16)
    (truncf .bf16 (broadcast S128x128 (sT a4 h4 x3 k n)) bitsLt_bf16_f32)
/-- Four of them side by side. -/
def wR (k : Fin 64) (j : Fin 8) : FVec F S128x512 .bf16 :=
  concatenate S128x512 1 [⟨S128x128, wT a3 h3 a4 h4 x2 x3 k ⟨4 * j.val, by omega⟩⟩, ⟨S128x128, wT a3 h3 a4 h4 x2 x3 k ⟨4 * j.val + 1, by omega⟩⟩,
    ⟨S128x128, wT a3 h3 a4 h4 x2 x3 k ⟨4 * j.val + 2, by omega⟩⟩, ⟨S128x128, wT a3 h3 a4 h4 x2 x3 k ⟨4 * j.val + 3, by omega⟩⟩] concatenates_S128x128_S128x128_S128x128_S128x128_S128x512_d1
/-- Two rows of blocks: the weight tile of one partial product. -/
def wK (k : Fin 32) (j : Fin 8) : FVec F S256x512 .bf16 :=
  concatenate S256x512 0 [⟨S128x512, wR a3 h3 a4 h4 x2 x3 ⟨2 * k.val, by omega⟩ j⟩, ⟨S128x512, wR a3 h3 a4 h4 x2 x3 ⟨2 * k.val + 1, by omega⟩ j⟩] concatenates_S128x512_S128x512_S256x512_d0
/-- One partial product. -/
def dK (k : Fin 32) (j : Fin 8) : FVec F S256x512 .f32 :=
  matmul dot_S256x256_S256x512_S256x512_1_0_0_1_n_n none (xT a1 h1 x0 k) (wK a3 h3 a4 h4 x2 x3 k j) (constant S256x512 .f32 0x00000000#32)
/-- The sum of the partial products up to `k`. -/
def accTo (j : Fin 8) : (k : Nat) → k < 32 → FVec F S256x512 .f32
  | 0, h => dK a1 h1 a3 h3 a4 h4 x0 x2 x3 ⟨0, h⟩ j
  | k + 1, h => addf (accTo j k (Nat.lt_of_succ_lt h)) (dK a1 h1 a3 h3 a4 h4 x0 x2 x3 ⟨k + 1, h⟩ j)
/-- The product of one chunk of 512 columns. -/
def accC (j : Fin 8) : FVec F S256x512 .f32 := accTo a1 h1 a3 h3 a4 h4 x0 x2 x3 j 31 (by decide)

theorem inbY (j : Fin 8) : ∀ a, (![0, 512 * j.val] : Fin 2 → Nat) a + S256x512.size a ≤ S256x4096.size a :=
  Fin.forall_fin_two.mpr ⟨by show 0 + 256 ≤ 256; omega, by show 512 * j.val + 512 ≤ 4096; omega⟩
/-- The piece of the product's buffer that chunk `j` stores. -/
def pcY (j : Fin 8) : View.Piece (Elt F) S256x4096 .f32 :=
  ⟨Rect.unit (s := S256x4096) ![0, 512 * j.val] S256x512.size (inbY j), shapeCast S256x512 (accC a1 h1 a3 h3 a4 h4 x0 x2 x3 j) shapeCasts_S256x512_S256x512⟩
end

set_option maxHeartbeats 4000000 in
/-- At a middle point the product's buffer gets the products of the eight chunks. -/
theorem piecesB_y (c : Dev nD) (i : grid0.Coords) (a1) (h1) (a2) (h2) (a3) (h3) (a4) (h4) (a5) (h5) (a6) (h6) (a7) (h7) (a8) (h8) (a9) (h9) (c0) (c1) (c2) (x0) (x1) (x2) (x3) (xs0) (xs1) (xs2) :
    (kernelRun0_B (F := F) c i a1 h1 a2 h2 a3 h3 a4 h4 a5 h5 a6 h6 a7 h7 a8 h8 a9 h9 c0 c1 c2 x0 x1 x2 x3 xs0 xs1 xs2).2.2.1
      = [pcY a1 h1 a3 h3 a4 h4 x0 x2 x3 7, pcY a1 h1 a3 h3 a4 h4 x0 x2 x3 6, pcY a1 h1 a3 h3 a4 h4 x0 x2 x3 5, pcY a1 h1 a3 h3 a4 h4 x0 x2 x3 4,
         pcY a1 h1 a3 h3 a4 h4 x0 x2 x3 3, pcY a1 h1 a3 h3 a4 h4 x0 x2 x3 2, pcY a1 h1 a3 h3 a4 h4 x0 x2 x3 1, pcY a1 h1 a3 h3 a4 h4 x0 x2 x3 0] := by
  sl_kernel_rfl

section
variable (a2 : Memref sig .tc .vmem S1x1x256 .f32) (h2 : a2.IsWhole) (a7 : Memref sig .tc .vmem S256x4096 .f32) (h7 : a7.IsWhole)
  (a8 : Memref sig .tc .vmem S256x128 .f32) (h8 : a8.IsWhole) (a9 : Memref sig .tc .vmem S256x128 .f32) (h9 : a9.IsWhole)
  (x1 : Vec F S1x1x256 .f32) (xs0 : Vec F S256x4096 .f32) (xs1 xs2 : Vec F S256x128 .f32)

/-- The running maximum of the magnitudes, taken lane by lane, with one chunk of columns. -/
def mx4 (v : FVec F S256x128 .f32) (y : FVec F S256x512 .f32) : FVec F S256x128 .f32 :=
  maximumf (maximumf (maximumf (maximumf v (absf (extractStridedSlice S256x128 ![0, 0] y slices_S256x512_o0_0_S256x128)))
    (absf (extractStridedSlice S256x128 ![0, 128] y slices_S256x512_o0_128_S256x128)))
    (absf (extractStridedSlice S256x128 ![0, 256] y slices_S256x512_o0_256_S256x128)))
    (absf (extractStridedSlice S256x128 ![0, 384] y slices_S256x512_o0_384_S256x128))
/-- The maximum over the chunks before `j`. -/
def mxTo (y : Fin 8 → FVec F S256x512 .f32) : (j : Nat) → j ≤ 8 → FVec F S256x128 .f32
  | 0, _ => broadcast S256x128 (Scalar.ofBits .f32 0x00000000#32)
  | j + 1, h => mx4 (mxTo y j (Nat.le_of_succ_le h)) (y ⟨j, h⟩)
/-- The tokens' scales as a column. -/
def xsC : FVec F S256x1 .f32 :=
  k0_pay1553 (View.readAt (Elt F) a2.view (Rect.unit (s := S1x1x256) ![0, 0, 0] S1x1x256.size inb_S1x1x256_S1x1x256_0_0_0).toLoadRect (h2.unread x1))
/-- The value whose exponent is wanted: the largest magnitude over 448. -/
def vC (y : Fin 8 → FVec F S256x512 .f32) (xs : FVec F S256x1 .f32) : FVec F S256x1 .f32 := k0_pay1554 (mxTo y 8 (Nat.le_refl 8)) xs
/-- The power of two of an integer exponent. -/
def p2 (e : IVec S256x1 32) : FVec F S256x1 .f32 :=
  bitcastToFloat .f32 (shli (addi e (broadcast S256x1 127#32)) (broadcast S256x1 23#32))
/-- One step of the search for the exponent. -/
def stp (v : FVec F S256x1 .f32) (s : BitVec 32) (e : IVec S256x1 32) : IVec S256x1 32 :=
  select (cmpf .oge v (p2 (addi e (broadcast S256x1 s)))) (addi e (broadcast S256x1 s)) e
/-- The exponent. -/
def eC (v : FVec F S256x1 .f32) : IVec S256x1 32 :=
  select (andi (cmpf .oge v (broadcast S256x1 (Scalar.ofBits .f32 0x00800000#32))) (cmpf .olt v (broadcast S256x1 (Scalar.ofBits .f32 0x7F800000#32))))
    (addi (stp v 1#32 (stp v 2#32 (stp v 4#32 (stp v 8#32 (stp v 16#32 (stp v 32#32 (stp v 64#32 (stp v 124#32 (broadcast S256x1 4294967170#32)))))))))
      (broadcast S256x1 1#32))
    (broadcast S256x1 0#32)
/-- The scales' block. -/
def scC (e : IVec S256x1 32) : FVec F S1x1x256 .f32 :=
  shapeCast S1x1x256 (transpose S1x256 [1, 0] (p2 e) transposes_S256x1_p1_0_S1x256) shapeCasts_S1x256_S1x1x256
/-- The inverse powers of two, along the lanes. -/
def inC (e : IVec S256x1 32) : FVec F S256x128 .f32 :=
  shapeCast S256x128 (broadcastTo S256x128 (shapeCast S256x1 (p2 (F := F) (subi (broadcast S256x1 0#32) e)) shapeCasts_S256x1_S256x1) broadcasts_S256x1_S256x128) shapeCasts_S256x128_S256x128

theorem inbQ (q : Fin 32) : ∀ a, (![0, 128 * q.val] : Fin 2 → Nat) a + S256x128.size a ≤ S256x4096.size a :=
  Fin.forall_fin_two.mpr ⟨by show 0 + 256 ≤ 256; omega, by show 128 * q.val + 128 ≤ 4096; omega⟩
/-- The codes of 128 columns, stored from what the three scratch buffers hold. -/
def pcQ (q : Fin 32) : View.Piece (Elt F) S256x4096 .fp8e4m3 :=
  ⟨Rect.unit (s := S256x4096) ![0, 128 * q.val] S256x128.size (inbQ q),
    k0_pay7 (View.readAt (Elt F) a8.view (Rect.unit (s := S256x128) ![0, 0] S256x128.size inb_S256x128_S256x128_0_0).toLoadRect (h8.unread xs1))
      (View.readAt (Elt F) a9.view (Rect.unit (s := S256x128) ![0, 0] S256x128.size inb_S256x128_S256x128_0_0).toLoadRect (h9.unread xs2))
      (View.readAt (Elt F) a7.view (Rect.unit (s := S256x4096) ![0, 128 * q.val] S256x128.size (inbQ q)).toLoadRect (h7.unread xs0))⟩
/-- All 32 of them, the last stored first. -/
def pcsQ : List (View.Piece (Elt F) S256x4096 .fp8e4m3) :=
  [31, 30, 29, 28, 27, 26, 25, 24, 23, 22, 21, 20, 19, 18, 17, 16, 15, 14, 13, 12, 11, 10, 9, 8, 7, 6, 5, 4, 3, 2, 1, 0].map (pcQ a7 h7 a8 h8 a9 h9 xs0 xs1 xs2)
end

set_option maxHeartbeats 4000000 in
/-- At a middle point the scales' buffer gets the powers of two of the tokens' exponents. -/
theorem piecesB_scale (c : Dev nD) (i : grid0.Coords) (a1) (h1) (a2) (h2) (a3) (h3) (a4) (h4) (a5) (h5) (a6) (h6) (a7) (h7) (a8) (h8) (a9) (h9) (c0) (c1) (c2) (x0) (x1) (x2) (x3) (xs0) (xs1) (xs2) :
    (kernelRun0_B (F := F) c i a1 h1 a2 h2 a3 h3 a4 h4 a5 h5 a6 h6 a7 h7 a8 h8 a9 h9 c0 c1 c2 x0 x1 x2 x3 xs0 xs1 xs2).2.1
      = [⟨Rect.unit (s := S1x1x256) ![0, 0, 0] S1x1x256.size inb_S1x1x256_S1x1x256_0_0_0, scC (eC (vC (accC a1 h1 a3 h3 a4 h4 x0 x2 x3) (xsC a2 h2 x1)))⟩] := by
  sl_kernel_rfl
set_option maxHeartbeats 4000000 in
theorem piecesB_xs (c : Dev nD) (i : grid0.Coords) (a1) (h1) (a2) (h2) (a3) (h3) (a4) (h4) (a5) (h5) (a6) (h6) (a7) (h7) (a8) (h8) (a9) (h9) (c0) (c1) (c2) (x0) (x1) (x2) (x3) (xs0) (xs1) (xs2) :
    (kernelRun0_B (F := F) c i a1 h1 a2 h2 a3 h3 a4 h4 a5 h5 a6 h6 a7 h7 a8 h8 a9 h9 c0 c1 c2 x0 x1 x2 x3 xs0 xs1 xs2).2.2.2.1
      = [⟨Rect.unit (s := S256x128) ![0, 0] S256x128.size inb_S256x128_S256x128_0_0, k0_pay1563 (xsC a2 h2 x1)⟩] := by
  sl_kernel_rfl
set_option maxHeartbeats 4000000 in
theorem piecesB_inv (c : Dev nD) (i : grid0.Coords) (a1) (h1) (a2) (h2) (a3) (h3) (a4) (h4) (a5) (h5) (a6) (h6) (a7) (h7) (a8) (h8) (a9) (h9) (c0) (c1) (c2) (x0) (x1) (x2) (x3) (xs0) (xs1) (xs2) :
    (kernelRun0_B (F := F) c i a1 h1 a2 h2 a3 h3 a4 h4 a5 h5 a6 h6 a7 h7 a8 h8 a9 h9 c0 c1 c2 x0 x1 x2 x3 xs0 xs1 xs2).2.2.2.2.1
      = [⟨Rect.unit (s := S256x128) ![0, 0] S256x128.size inb_S256x128_S256x128_0_0, inC (eC (vC (accC a1 h1 a3 h3 a4 h4 x0 x2 x3) (xsC a2 h2 x1)))⟩] := by
  sl_kernel_rfl
set_option maxHeartbeats 4000000 in
/-- At a middle point the codes' buffer gets the codes of what the scratch buffers held before. -/
theorem piecesB_codes (c : Dev nD) (i : grid0.Coords) (a1) (h1) (a2) (h2) (a3) (h3) (a4) (h4) (a5) (h5) (a6) (h6) (a7) (h7) (a8) (h8) (a9) (h9) (c0) (c1) (c2) (x0) (x1) (x2) (x3) (xs0) (xs1) (xs2) :
    (kernelRun0_B (F := F) c i a1 h1 a2 h2 a3 h3 a4 h4 a5 h5 a6 h6 a7 h7 a8 h8 a9 h9 c0 c1 c2 x0 x1 x2 x3 xs0 xs1 xs2).1
      = pcsQ a7 h7 a8 h8 a9 h9 xs0 xs1 xs2 := by
  sl_kernel_rfl

end Cert.KernelIdeal.Value

end
-- ==== Proof.Value.Ends.lean ====
/- What the first and the last point of the grid store. -/
module

public import proofs.«01_k».proof.Proof.Value.Body
public import proofs.«01_k».proof.Proof.Run.Frame

@[expose] public section

set_option maxRecDepth 16384

noncomputable section

namespace Cert.KernelIdeal.Value

open Idealize.ShloMosaic Idealize.ShloMosaic.TcCoe Idealize.ShloMosaic.Tactic
open Cert.KernelIdeal.Gen Cert.KernelIdeal.Run

variable {F : FTy → Type} [FloatOps F]

set_option maxHeartbeats 4000000 in
theorem piecesA_y (c : Dev nD) (i : grid0.Coords) (a1) (h1) (a2) (h2) (a3) (h3) (a4) (h4) (a5) (h5) (a6) (h6) (a7) (h7) (a8) (h8) (a9) (h9) (c0) (c1) (c2) (x0) (x1) (x2) (x3) :
    (kernelRun0_A (F := F) c i a1 h1 a2 h2 a3 h3 a4 h4 a5 h5 a6 h6 a7 h7 a8 h8 a9 h9 c0 c1 c2 x0 x1 x2 x3).2.2.1
      = [pcY a1 h1 a3 h3 a4 h4 x0 x2 x3 7, pcY a1 h1 a3 h3 a4 h4 x0 x2 x3 6, pcY a1 h1 a3 h3 a4 h4 x0 x2 x3 5, pcY a1 h1 a3 h3 a4 h4 x0 x2 x3 4,
         pcY a1 h1 a3 h3 a4 h4 x0 x2 x3 3, pcY a1 h1 a3 h3 a4 h4 x0 x2 x3 2, pcY a1 h1 a3 h3 a4 h4 x0 x2 x3 1, pcY a1 h1 a3 h3 a4 h4 x0 x2 x3 0]
        ++ [⟨Rect.unit (s := S256x4096) ![0, 0] S256x4096.size inb_S256x4096_S256x4096_0_0, k0_pay1⟩] := by
  sl_kernel_rfl
set_option maxHeartbeats 4000000 in
theorem piecesA_scale (c : Dev nD) (i : grid0.Coords) (a1) (h1) (a2) (h2) (a3) (h3) (a4) (h4) (a5) (h5) (a6) (h6) (a7) (h7) (a8) (h8) (a9) (h9) (c0) (c1) (c2) (x0) (x1) (x2) (x3) :
    (kernelRun0_A (F := F) c i a1 h1 a2 h2 a3 h3 a4 h4 a5 h5 a6 h6 a7 h7 a8 h8 a9 h9 c0 c1 c2 x0 x1 x2 x3).2.1
      = [⟨Rect.unit (s := S1x1x256) ![0, 0, 0] S1x1x256.size inb_S1x1x256_S1x1x256_0_0_0, scC (eC (vC (accC a1 h1 a3 h3 a4 h4 x0 x2 x3) (xsC a2 h2 x1)))⟩] := by
  sl_kernel_rfl
set_option maxHeartbeats 4000000 in
theorem piecesA_xs (c : Dev nD) (i : grid0.Coords) (a1) (h1) (a2) (h2) (a3) (h3) (a4) (h4) (a5) (h5) (a6) (h6) (a7) (h7) (a8) (h8) (a9) (h9) (c0) (c1) (c2) (x0) (x1) (x2) (x3) :
    (kernelRun0_A (F := F) c i a1 h1 a2 h2 a3 h3 a4 h4 a5 h5 a6 h6 a7 h7 a8 h8 a9 h9 c0 c1 c2 x0 x1 x2 x3).2.2.2.1
      = [⟨Rect.unit (s := S256x128) ![0, 0] S256x128.size inb_S256x128_S256x128_0_0, k0_pay1563 (xsC a2 h2 x1)⟩]
        ++ [⟨Rect.unit (s := S256x128) ![0, 0] S256x128.size inb_S256x128_S256x128_0_0, k0_pay2⟩] := by
  sl_kernel_rfl
set_option maxHeartbeats 4000000 in
theorem piecesA_inv (c : Dev nD) (i : grid0.Coords) (a1) (h1) (a2) (h2) (a3) (h3) (a4) (h4) (a5) (h5) (a6) (h6) (a7) (h7) (a8) (h8) (a9) (h9) (c0) (c1) (c2) (x0) (x1) (x2) (x3) :
    (kernelRun0_A (F := F) c i a1 h1 a2 h2 a3 h3 a4 h4 a5 h5 a6 h6 a7 h7 a8 h8 a9 h9 c0 c1 c2 x0 x1 x2 x3).2.2.2.2.1
      = [⟨Rect.unit (s := S256x128) ![0, 0] S256x128.size inb_S256x128_S256x128_0_0, inC (eC (vC (accC a1 h1 a3 h3 a4 h4 x0 x2 x3) (xsC a2 h2 x1)))⟩]
        ++ [⟨Rect.unit (s := S256x128) ![0, 0] S256x128.size inb_S256x128_S256x128_0_0, k0_pay3⟩] := by
  sl_kernel_rfl
set_option maxHeartbeats 4000000 in
theorem piecesC_codes (c : Dev nD) (i : grid0.Coords) (a1) (h1) (a2) (h2) (a3) (h3) (a4) (h4) (a5) (h5) (a6) (h6) (a7) (h7) (a8) (h8) (a9) (h9) (c0) (c1) (c2) (x0) (x1) (x2) (x3) (x5) (xs0) (xs1) (xs2) :
    (kernelRun0_C (F := F) c i a1 h1 a2 h2 a3 h3 a4 h4 a5 h5 a6 h6 a7 h7 a8 h8 a9 h9 c0 c1 c2 x0 x1 x2 x3 x5 xs0 xs1 xs2).1
      = pcsQ a7 h7 a8 h8 a9 h9 xs0 xs1 xs2 := by
  sl_kernel_rfl

end Cert.KernelIdeal.Value

end
-- ==== Proof.Value.Exp.lean ====
/- The exponent of a value on the extended reals: the kernel's search over the powers of two against the reference's
   logarithm. -/
module

public import Idealize.ShloMosaic.PureOps.Ideal.Laws
public import Mathlib.Analysis.SpecialFunctions.Pow.Real

@[expose] public section

noncomputable section

namespace Cert.Exp

open Idealize.ShloMosaic

/-- The word of an integer exponent as a power of two. -/
def p2 (e : BitVec 32) : EReal := Ideal.ofBits .f32 (IntOp.shli .vector (IntOp.addi e 127#32) 23#32)
/-- One step of the search. -/
def stp (v : EReal) (s e : BitVec 32) : BitVec 32 :=
  Scalar.select (Ideal.cmp .oge v (p2 (IntOp.addi e s))) (IntOp.addi e s) e
/-- The search from -126 up. -/
def srch (v : EReal) : BitVec 32 :=
  stp v 1#32 (stp v 2#32 (stp v 4#32 (stp v 8#32 (stp v 16#32 (stp v 32#32 (stp v 64#32 (stp v 124#32 4294967170#32)))))))
/-- The kernel's exponent of `v`. -/
def eK (v : EReal) : BitVec 32 :=
  Scalar.select (IntOp.andi (Ideal.cmp .oge v (Ideal.ofBits .f32 0x00800000#32)) (Ideal.cmp .olt v (Ideal.ofBits .f32 0x7F800000#32)))
    (IntOp.addi (srch v) 1#32) 0#32
/-- The reference's exponent of `v`. -/
def eR (v : EReal) : EReal :=
  Scalar.select (IntOp.andi (Ideal.cmp .oge v (Ideal.ofBits .f32 0x00800000#32)) (Ideal.cmp .olt v (Ideal.ofBits .f32 0x7F800000#32)))
    (min (Ideal.liftRound Int.floor (Ideal.div (Ideal.log v) (Ideal.log (Ideal.ofBits .f32 0x40000000#32))) + Ideal.ofBits .f32 0x3F800000#32)
      (Ideal.ofBits .f32 0x42FC0000#32))
    (Ideal.ofBits .f32 0x00000000#32)

/-- The exponent word `n - 126`. -/
def wd (n : ℕ) : BitVec 32 := BitVec.ofNat 32 n - 126#32

theorem field : ∀ n : Fin 254, let b := IntOp.shli .vector (IntOp.addi (wd n.val) 127#32) 23#32
    (b.extractLsb' 31 1 == 1#1) = false ∧ (b.extractLsb' 23 8).toNat = n.val + 1 ∧ (b.extractLsb' 0 23).toNat = 0 := by
  decide +kernel

theorem ofBits_pow (b : BitVec 32) (e : ℕ) (he : e < 254) (h1 : (b.extractLsb' 31 1 == 1#1) = false) (h2 : (b.extractLsb' 23 8).toNat = e + 1)
    (h3 : (b.extractLsb' 0 23).toNat = 0) : Ideal.ofBits .f32 b = (((2 : ℝ) ^ ((e : ℤ) - 126) : ℝ) : EReal) := by
  show Ideal.ieee 8 23 b = _
  unfold Ideal.ieee
  simp only [show (8 + 23 : ℕ) = 31 from rfl, h1, h2, h3]
  rw [if_neg (by omega), if_neg (by omega)]
  congr 1
  simp only [Bool.false_eq_true, if_false, one_mul, Nat.add_zero]
  rw [Nat.cast_pow, ← zpow_natCast, Nat.cast_ofNat, ← zpow_add₀ (by norm_num)]
  congr 1
  push_cast; omega

theorem p2_wd (n : ℕ) (h : n < 254) : p2 (wd n) = (((2 : ℝ) ^ ((n : ℤ) - 126) : ℝ) : EReal) :=
  ofBits_pow _ n h (field ⟨n, h⟩).1 (field ⟨n, h⟩).2.1 (field ⟨n, h⟩).2.2

theorem ofBool_one (b : Bool) : (BitVec.ofBool b = 1#1) ↔ b = true := by cases b <;> decide

/-- A step, told by the comparison. -/
theorem stp_eq (v : EReal) (s e : BitVec 32) : stp v s e = if p2 (e + s) ≤ v then e + s else e := by
  unfold stp Scalar.select Ideal.cmp IntOp.addi
  by_cases h : p2 (e + s) ≤ v
  · simp only [h, decide_true]; rfl
  · simp only [h, decide_false]; rfl

/-- The search for the greatest `n` at most `N`, on words. -/
def isrch (N : ℕ) : ℕ :=
  let st (s n : ℕ) : ℕ := if n + s ≤ N then n + s else n
  st 1 (st 2 (st 4 (st 8 (st 16 (st 32 (st 64 (st 124 0)))))))
theorem isrch_eq : ∀ N : Fin 252, isrch N.val = N.val := by decide +kernel

theorem wd_add (n s : ℕ) : wd n + BitVec.ofNat 32 s = wd (n + s) := by
  unfold wd
  rw [BitVec.ofNat_add, BitVec.sub_eq_add_neg, BitVec.sub_eq_add_neg, BitVec.add_assoc, BitVec.add_comm (-126#32), BitVec.add_assoc]

/-- A value between 2^(N-126) and the next power of two (or beyond, at the top) is found. -/
theorem srch_eq (v : EReal) (N : ℕ) (hN : N < 252) (h : ∀ n : ℕ, n < 252 → (p2 (wd n) ≤ v ↔ n ≤ N)) : srch v = wd N := by
  have step : ∀ n s : ℕ, n + s < 252 → stp v (BitVec.ofNat 32 s) (wd n) = wd (if n + s ≤ N then n + s else n) := by
    intro n s hs
    rw [stp_eq, wd_add]
    by_cases hh : n + s ≤ N
    · rw [if_pos ((h _ hs).mpr hh), if_pos hh]
    · rw [if_neg (fun h' => hh ((h _ hs).mp h')), if_neg hh]
  have e0 : (4294967170#32 : BitVec 32) = wd 0 := by decide
  have bd : ∀ n s B : ℕ, n ≤ B → (if n + s ≤ N then n + s else n) ≤ B + s := by
    intro n s B hb; split <;> omega
  unfold srch
  rw [e0]
  have b1 := bd 0 124 0 le_rfl
  have b2 := bd _ 64 _ b1
  have b3 := bd _ 32 _ b2
  have b4 := bd _ 16 _ b3
  have b5 := bd _ 8 _ b4
  have b6 := bd _ 4 _ b5
  have b7 := bd _ 2 _ b6
  have b8 := bd _ 1 _ b7
  rw [step 0 124 (by omega), step _ 64 (by omega), step _ 32 (by omega), step _ 16 (by omega), step _ 8 (by omega), step _ 4 (by omega),
    step _ 2 (by omega), step _ 1 (by omega)]
  exact congrArg wd (isrch_eq ⟨N, hN⟩)

theorem ofBits_min : Ideal.ofBits .f32 0x00800000#32 = (((2 : ℝ) ^ (-126 : ℤ) : ℝ) : EReal) := by
  have := p2_wd 0 (by omega)
  simpa [p2, show IntOp.shli .vector (IntOp.addi (wd 0) 127#32) 23#32 = 0x00800000#32 by decide] using this
theorem ofBits_inf : Ideal.ofBits .f32 0x7F800000#32 = ⊤ := by
  simp [Ideal.ofBits, Ideal.ieee]
theorem ofBits_one : Ideal.ofBits .f32 0x3F800000#32 = ((1 : ℝ) : EReal) := by
  have := p2_wd 126 (by omega)
  simpa [p2, show IntOp.shli .vector (IntOp.addi (wd 126) 127#32) 23#32 = 0x3F800000#32 by decide] using this
theorem ofBits_two : Ideal.ofBits .f32 0x40000000#32 = ((2 : ℝ) : EReal) := by
  have := p2_wd 127 (by omega)
  simpa [p2, show IntOp.shli .vector (IntOp.addi (wd 127) 127#32) 23#32 = 0x40000000#32 by decide] using this
theorem ofBits_cap : Ideal.ofBits .f32 0x42FC0000#32 = ((126 : ℝ) : EReal) := by
  simp only [Ideal.ofBits, Ideal.ieee]
  have h1 : ((0x42FC0000#32).extractLsb' (8 + 23) 1 == 1#1) = false := by decide
  have h2 : ((0x42FC0000#32).extractLsb' 23 8).toNat = 133 := by decide
  have h4 : ((0x42FC0000#32).extractLsb' 0 23).toNat = 0x7C0000 := by decide
  rw [h1, h2, h4, if_neg (by omega), if_neg (by omega)]
  congr 1
  norm_num

/-- The two exponents agree: some integer `k` between -126 and 126 is both. -/
theorem exp_agree (v : EReal) : ∃ n : ℕ, n < 253 ∧ eK v = wd n ∧ eR v = (((n : ℝ) - 126 : ℝ) : EReal) := by
  by_cases hv : (((2 : ℝ) ^ (-126 : ℤ) : ℝ) : EReal) ≤ v ∧ v < ⊤
  · have hc : IntOp.andi (Ideal.cmp .oge v (Ideal.ofBits .f32 0x00800000#32)) (Ideal.cmp .olt v (Ideal.ofBits .f32 0x7F800000#32)) = 1#1 := by
      rw [ofBits_min, ofBits_inf]
      simp only [Ideal.cmp, IntOp.andi, hv.1, hv.2, decide_true]; decide
    have hk : eK v = IntOp.addi (srch v) 1#32 := by exact if_pos hc
    have hr : eR v = (min (Ideal.liftRound Int.floor (Ideal.div (Ideal.log v) (Ideal.log (Ideal.ofBits .f32 0x40000000#32))) + Ideal.ofBits .f32 0x3F800000#32)
      (Ideal.ofBits .f32 0x42FC0000#32)) := by exact if_pos hc
    rw [hk, hr, ofBits_two, ofBits_one, ofBits_cap]
    clear hc hk hr
    obtain ⟨hv1, hv2⟩ := hv
    induction v with
    | bot => exact absurd hv1 (by simp)
    | top => exact absurd hv2 (lt_irrefl _)
    | coe r =>
      have hr : (2 : ℝ) ^ (-126 : ℤ) ≤ r := EReal.coe_le_coe_iff.mp hv1
      have hr0 : 0 < r := lt_of_lt_of_le (by positivity) hr
      have key : ∀ z : ℤ, (2 : ℝ) ^ z ≤ r ↔ z ≤ ⌊(Real.log r / Real.log 2)⌋ := by
        intro z
        rw [Int.le_floor, le_div_iff₀ (Real.log_pos (by norm_num)), ← Real.log_zpow, Real.log_le_log_iff (by positivity) hr0]
      set M := ⌊(Real.log r / Real.log 2)⌋ with hM
      have hM0 : -126 ≤ M := (key _).mp hr
      set N : ℕ := (min M 125 + 126).toNat with hN
      have hNz : (N : ℤ) = min M 125 + 126 := by rw [hN]; exact Int.toNat_of_nonneg (by omega)
      have hs : srch (r : EReal) = wd N := by
        refine srch_eq _ N (by omega) fun n hn => ?_
        rw [p2_wd n (by omega), EReal.coe_le_coe_iff, key]
        omega
      refine ⟨N + 1, by omega, ?_, ?_⟩
      · rw [hs]; exact wd_add N 1
      · have e1 : Ideal.div (Ideal.log (r : EReal)) (Ideal.log ((2 : ℝ) : EReal)) = (((Real.log r / Real.log 2) : ℝ) : EReal) := by
          have l1 : Ideal.log (r : EReal) = ((Real.log r : ℝ) : EReal) := by
            show (if r ≤ 0 then ⊥ else ((Real.log r : ℝ) : EReal)) = _
            rw [if_neg (not_le.mpr hr0)]
          have l2 : Ideal.log ((2 : ℝ) : EReal) = ((Real.log 2 : ℝ) : EReal) := by
            show (if (2 : ℝ) ≤ 0 then ⊥ else ((Real.log 2 : ℝ) : EReal)) = _
            rw [if_neg (by norm_num)]
          have l3 : Real.log 2 ≠ 0 := (Real.log_pos (by norm_num)).ne'
          rw [l1, l2]; unfold Ideal.div
          rw [if_neg (by exact_mod_cast l3), ← EReal.coe_inv, ← EReal.coe_mul]; rfl
        rw [e1]
        show min (((⌊(Real.log r / Real.log 2)⌋ : ℝ) : EReal) + ((1 : ℝ) : EReal)) _ = _
        rw [← hM, ← EReal.coe_add, ← EReal.coe_strictMono.monotone.map_min]
        congr 1
        have : ((N : ℤ) : ℝ) = ((min M 125 + 126 : ℤ) : ℝ) := by rw [hNz]
        push_cast at this ⊢
        rw [this]
        rcases le_total (M : ℝ) 125 with h | h
        · rw [min_eq_left h, min_eq_left (by linarith)]; ring
        · rw [min_eq_right h, min_eq_right (by linarith)]; ring
  · have hc : ¬ IntOp.andi (Ideal.cmp .oge v (Ideal.ofBits .f32 0x00800000#32)) (Ideal.cmp .olt v (Ideal.ofBits .f32 0x7F800000#32)) = 1#1 := by
      rw [ofBits_min, ofBits_inf]
      simp only [Ideal.cmp, IntOp.andi]
      intro h
      apply hv
      by_cases a : (((2 : ℝ) ^ (-126 : ℤ) : ℝ) : EReal) ≤ v <;> by_cases b : v < ⊤
      · exact ⟨a, b⟩
      all_goals
        simp only [a, b, decide_true, decide_false] at h
        exact absurd h (by decide)
    refine ⟨126, by omega, ?_, ?_⟩
    · exact (if_neg hc).trans (by decide)
    · refine (if_neg hc).trans ?_; rw [Ideal.ofBits_zero_f32]; norm_num

theorem exp2_wd (n : ℕ) (h : n < 254) : Ideal.exp2 (((n : ℝ) - 126 : ℝ) : EReal) = p2 (wd n) := by
  rw [p2_wd n h]
  show ((Real.rpow 2 ((n : ℝ) - 126) : ℝ) : EReal) = _
  congr 1
  have : ((n : ℝ) - 126) = (((n : ℤ) - 126 : ℤ) : ℝ) := by push_cast; ring
  rw [this]; exact Real.rpow_intCast _ _

theorem neg_wd : ∀ n : Fin 253, IntOp.subi 0#32 (wd n.val) = wd (252 - n.val) := by decide +kernel

/-- The scale is the same ... -/
theorem scale_agree (v : EReal) : Ideal.exp2 (eR v) = p2 (eK v) := by
  obtain ⟨n, hn, h1, h2⟩ := exp_agree v
  rw [h1, h2, exp2_wd n (by omega)]
/-- ... and so is its inverse. -/
theorem inv_agree (v : EReal) : Ideal.exp2 (0 - eR v) = p2 (IntOp.subi 0#32 (eK v)) := by
  obtain ⟨n, hn, h1, h2⟩ := exp_agree v
  rw [h1, h2, neg_wd ⟨n, hn⟩, ← exp2_wd _ (by omega)]
  congr 1
  rw [← EReal.coe_zero, ← EReal.coe_sub]
  congr 1
  rw [Nat.cast_sub (by omega)]; push_cast; ring
/-- At zero the reference takes the exponent zero, which is the value's own. -/
theorem eR_zero : eR 0 = 0 := by
  refine (if_neg ?_).trans Ideal.ofBits_zero_f32
  rw [ofBits_min, ofBits_inf]
  have : ¬ (((2 : ℝ) ^ (-126 : ℤ) : ℝ) : EReal) ≤ 0 := by
    rw [← EReal.coe_zero, EReal.coe_le_coe_iff, not_le]; positivity
  simp only [Ideal.cmp, IntOp.andi, this, decide_false]
  intro h
  have := congrArg BitVec.toNat h
  revert this; cases decide ((0 : EReal) < ⊤) <;> decide

end Cert.Exp

end
-- ==== Proof.Value.Row.lean ====
/- One token's results as functions of its codes, its scale and the weights: what both programs are shown to compute. -/
module

public import proofs.«01_k».proof.Proof.Value.Exp
public import Idealize.ShloMosaic.Lib.ValueIdxCore
public import Mathlib.Data.EReal.Operations
public import Mathlib.Algebra.BigOperators.Fin

@[expose] public section

noncomputable section

namespace Cert.Row

open Idealize.ShloMosaic

/-- The magnitude. -/
def mag (a : EReal) : EReal := max a (-a)

theorem mag_of_nonneg {a : EReal} (h : 0 ≤ a) : mag a = a := max_eq_left (le_trans (EReal.neg_nonneg.mp (by rwa [neg_neg])) h)
theorem mag_neg (a : EReal) : mag (-a) = mag a := by unfold mag; rw [neg_neg, max_comm]
theorem mag_nonneg (a : EReal) : 0 ≤ mag a := by
  rcases le_total 0 a with h | h
  · exact le_max_of_le_left h
  · exact le_max_of_le_right (EReal.neg_nonneg.mpr h)
theorem mag_mul (a b : EReal) : mag (a * b) = mag a * mag b := by
  have key : ∀ a b : EReal, 0 ≤ a → 0 ≤ b → mag (a * b) = mag a * mag b := fun a b ha hb => by
    rw [mag_of_nonneg ha, mag_of_nonneg hb, mag_of_nonneg (mul_nonneg ha hb)]
  rcases le_total 0 a with ha | ha <;> rcases le_total 0 b with hb | hb
  · exact key a b ha hb
  · have := key a (-b) ha (EReal.neg_nonneg.mpr hb)
    rwa [mul_neg, mag_neg, mag_neg] at this
  · have := key (-a) b (EReal.neg_nonneg.mpr ha) hb
    rwa [neg_mul, mag_neg, mag_neg] at this
  · have := key (-a) (-b) (EReal.neg_nonneg.mpr ha) (EReal.neg_nonneg.mpr hb)
    rwa [neg_mul, mul_neg, neg_neg, mag_neg, mag_neg] at this

/-- The greatest of finitely many magnitudes times a factor is the greatest of the products. -/
theorem sup_mul {N : ℕ} (f : Fin (N + 1) → EReal) (a : EReal) (ha : 0 ≤ a) :
    (Finset.univ.sup f) * a = Finset.univ.sup fun n => f n * a := by
  obtain ⟨n, _, hn⟩ := Finset.exists_mem_eq_sup Finset.univ Finset.univ_nonempty f
  apply le_antisymm
  · rw [hn]; exact Finset.le_sup (f := fun n => f n * a) (Finset.mem_univ n)
  · exact Finset.sup_le fun k hk => mul_le_mul_of_nonneg_right (Finset.le_sup hk) ha

/-- The folded maximum is the supremum. -/
theorem fold_eq_sup {N : ℕ} (f : Fin N → EReal) : Finset.univ.fold max (Ideal.ofBits .f32 0xFF800000#32) f = Finset.univ.sup f := by
  rw [show Ideal.ofBits .f32 0xFF800000#32 = ⊥ by simp [Ideal.ofBits, Ideal.ieee]]; rfl

variable (x : Fin 8192 → EReal) (w : Fin 8192 → Fin 4096 → EReal) (s : Fin 64 → Fin 32 → EReal) (a : EReal)

/-- The product of the token's codes and the scaled weights. -/
def acc (n : Fin 4096) : EReal := ∑ k : Fin 8192, x k * (w k n * s ⟨k.val / 128, by omega⟩ ⟨n.val / 128, by omega⟩)
/-- The largest magnitude of the scaled results, over 448. -/
def top : EReal := (Finset.univ.sup fun n => mag (acc x w s n * a)) * Ideal.ofBits .f32 0x3B124925#32
/-- The scale, a power of two. -/
def scale : EReal := Exp.p2 (Exp.eK (top x w s a))
/-- The codes. -/
def code (n : Fin 4096) : EReal :=
  min (Ideal.ofBits .f32 0x43E00000#32) (max (Ideal.ofBits .f32 0xC3E00000#32) (acc x w s n * a * Exp.p2 (IntOp.subi 0#32 (Exp.eK (top x w s a)))))

/-- The scale may be applied after the maximum. -/
theorem top_eq : top x w s a = (Finset.univ.sup fun n => mag (acc x w s n)) * mag a * Ideal.ofBits .f32 0x3B124925#32 := by
  unfold top
  rw [sup_mul _ _ (mag_nonneg a)]
  simp only [mag_mul]

/-- A sum over 8192 columns, 256 at a time. -/
theorem sum_chunks (f : Fin 8192 → EReal) : ∑ q : Fin 32, ∑ l : Fin 256, f ⟨256 * q.val + l.val, by omega⟩ = ∑ k, f k := by
  rw [← Fintype.sum_prod_type' (f := fun (q : Fin 32) (l : Fin 256) => f ⟨256 * q.val + l.val, by omega⟩)]
  refine Fintype.sum_equiv (finProdFinEquiv (m := 32) (n := 256)) _ _ fun p => ?_
  exact congrArg f (Fin.ext (Nat.add_comm _ _))

end Cert.Row

end
-- ==== Proof.Value.Ker.lean ====
/- The body's values on the extended reals, read index by index: each token's row is what `Row` says. -/
module

public import proofs.«01_k».proof.Proof.Value.Body
public import proofs.«01_k».proof.Proof.Value.Row
public import Idealize.ShloMosaic.Lib.MatmulPlain
public import Idealize.ShloMosaic.Lib.Pipeline.Value

@[expose] public section

noncomputable section

namespace Cert.KernelIdeal.Value

open Idealize.ShloMosaic Idealize.ShloMosaic.TcCoe Idealize.ShloMosaic.ValueIdx
open Cert.KernelIdeal.Gen Cert.KernelIdeal.Run

section
variable (a1 : Memref sig .tc .vmem S256x8192 .fp8e4m3) (h1 : a1.IsWhole) (a3 : Memref sig .tc .vmem S8192x4096 .fp8e4m3) (h3 : a3.IsWhole)
  (a4 : Memref sig .tc .smem S64x32 .f32) (h4 : a4.IsWhole)
  (x0 : Vec Ideal S256x8192 .fp8e4m3) (x2 : Vec Ideal S8192x4096 .fp8e4m3) (x3 : Vec Ideal S64x32 .f32)

/-- A token's codes, the weights and their scales as plain functions. -/
abbrev rx (i : Fin 256) : Fin 8192 → EReal := fun k => x0 (ix2 i k)
abbrev rw' : Fin 8192 → Fin 4096 → EReal := fun k n => x2 (ix2 k n)
abbrev rs : Fin 64 → Fin 32 → EReal := fun k n => x3 (ix2 k n)

theorem xT_apply (k : Fin 32) (i l : Fin 256) : xT a1 h1 x0 k (ix2 i l) = x0 (ix2 i ⟨256 * k.val + l.val, by omega⟩) := by
  unfold xT
  refine (shapeCast_apply (t := S256x256) (View.readAt (Elt Ideal) a1.view (Rect.unit (s := S256x8192) ![0, 256 * k.val] S256x256.size (inbX k)).toLoadRect (h1.unread x0))
    shapeCasts_S256x256_S256x256 (ix2 i l) (ix2 i l) rfl).trans ?_
  refine (h1.readAt_unread x0 _ _).trans (congrArg x0 ?_)
  funext a; apply Fin.ext
  match a with
  | ⟨0, _⟩ => exact (by show 0 + 1 * i.val = i.val; omega)
  | ⟨1, _⟩ => exact (by show 256 * k.val + 1 * l.val = _; simp only; omega)

theorem sT_eq (k : Fin 64) (n : Fin 32) : sT a4 h4 x3 k n = x3 (ix2 k n) := by
  unfold sT
  refine (h4.readAt_unread x3 _ _).trans (congrArg x3 ?_)
  funext a; apply Fin.ext
  match a with
  | ⟨0, _⟩ => exact (by show k.val + 1 * 0 = k.val; omega)
  | ⟨1, _⟩ => exact (by show n.val + 1 * 0 = n.val; omega)

theorem wT_apply (k : Fin 64) (n : Fin 32) (a b : Fin 128) :
    wT a3 h3 a4 h4 x2 x3 k n (ix2 a b) = x2 (ix2 ⟨128 * k.val + a.val, by omega⟩ ⟨128 * n.val + b.val, by omega⟩) * x3 (ix2 k n) := by
  have e : View.readAt (Elt Ideal) a3.view (Rect.unit (s := S8192x4096) ![128 * k.val, 128 * n.val] S128x128.size (inbW k n)).toLoadRect (h3.unread x2) (ix2 a b)
      = x2 (ix2 ⟨128 * k.val + a.val, by omega⟩ ⟨128 * n.val + b.val, by omega⟩) := by
    refine (h3.readAt_unread x2 _ _).trans (congrArg x2 ?_)
    funext d; apply Fin.ext
    match d with
    | ⟨0, _⟩ => exact (by show 128 * k.val + 1 * a.val = _; simp only; omega)
    | ⟨1, _⟩ => exact (by show 128 * n.val + 1 * b.val = _; simp only; omega)
  show _ * sT a4 h4 x3 k n = _
  rw [sT_eq]
  exact congrArg (· * x3 (ix2 k n)) e

theorem wR_apply (k : Fin 64) (j : Fin 8) (a : Fin 128) (b : Fin 512) :
    wR a3 h3 a4 h4 x2 x3 k j (ix2 a b)
      = x2 (ix2 ⟨128 * k.val + a.val, by omega⟩ ⟨512 * j.val + b.val, by omega⟩) * x3 (ix2 k ⟨4 * j.val + b.val / 128, by omega⟩) := by
  have e : wR a3 h3 a4 h4 x2 x3 k j (ix2 a b)
      = wT a3 h3 a4 h4 x2 x3 k ⟨4 * j.val + b.val / 128, by omega⟩ (ix2 a ⟨b.val % 128, by omega⟩) :=
    concatenate_ofFn_apply (t := S128x512) (s₁ := S128x128) 1 (N := 4) (fun q : Fin 4 => wT a3 h3 a4 h4 x2 x3 k ⟨4 * j.val + q.val, by omega⟩)
      concatenates_S128x128_S128x128_S128x128_S128x128_S128x512_d1 rfl 128 rfl (ix2 a b) ⟨b.val / 128, by omega⟩ rfl (ix2 a ⟨b.val % 128, by omega⟩) rfl
      (fun d hd => by
        match d with
        | ⟨0, _⟩ => rfl
        | ⟨1, _⟩ => exact absurd rfl hd)
  rw [e, wT_apply]
  congr 3
  exact Fin.ext (by simp only; omega)

theorem wK_apply (k : Fin 32) (j : Fin 8) (l : Fin 256) (b : Fin 512) :
    wK a3 h3 a4 h4 x2 x3 k j (ix2 l b)
      = x2 (ix2 ⟨256 * k.val + l.val, by omega⟩ ⟨512 * j.val + b.val, by omega⟩)
        * x3 (ix2 ⟨(256 * k.val + l.val) / 128, by omega⟩ ⟨(512 * j.val + b.val) / 128, by omega⟩) := by
  have e : wK a3 h3 a4 h4 x2 x3 k j (ix2 l b)
      = wR a3 h3 a4 h4 x2 x3 ⟨2 * k.val + l.val / 128, by omega⟩ j (ix2 ⟨l.val % 128, by omega⟩ b) :=
    concatenate_ofFn_apply (t := S256x512) (s₁ := S128x512) 0 (N := 2) (fun q : Fin 2 => wR a3 h3 a4 h4 x2 x3 ⟨2 * k.val + q.val, by omega⟩ j)
      concatenates_S128x512_S128x512_S256x512_d0 rfl 128 rfl (ix2 l b) ⟨l.val / 128, by omega⟩ rfl (ix2 ⟨l.val % 128, by omega⟩ b) rfl
      (fun d hd => by
        match d with
        | ⟨0, _⟩ => exact absurd rfl hd
        | ⟨1, _⟩ => rfl)
  rw [e, wR_apply]
  have e1 : (⟨128 * (2 * k.val + l.val / 128) + l.val % 128, by omega⟩ : Fin 8192) = ⟨256 * k.val + l.val, by omega⟩ := Fin.ext (by simp only; omega)
  have e2 : (⟨2 * k.val + l.val / 128, by omega⟩ : Fin 64) = ⟨(256 * k.val + l.val) / 128, by omega⟩ := Fin.ext (by simp only; omega)
  have e3 : (⟨4 * j.val + b.val / 128, by omega⟩ : Fin 32) = ⟨(512 * j.val + b.val) / 128, by omega⟩ := Fin.ext (by simp only; omega)
  simp only [e1, e2, e3]

theorem dK_apply (k : Fin 32) (j : Fin 8) (i : Fin 256) (b : Fin 512) :
    dK a1 h1 a3 h3 a4 h4 x0 x2 x3 k j (ix2 i b)
      = ∑ l : Fin 256, (fun q : Fin 8192 => rx x0 i q * (rw' x2 q ⟨512 * j.val + b.val, by omega⟩ * rs x3 ⟨q.val / 128, by omega⟩ ⟨(512 * j.val + b.val) / 128, by omega⟩))
          ⟨256 * k.val + l.val, by omega⟩ := by
  refine (Ideal.matmul_plain_apply (M := 256) (K := 256) (N := 512) none (xT a1 h1 x0 k) (wK a3 h3 a4 h4 x2 x3 k j) _ i b).trans ?_
  show Ideal.ofBits .f32 0x00000000#32 + _ = _
  rw [Ideal.ofBits_zero_f32, zero_add]
  exact Finset.sum_congr rfl fun l _ => by rw [xT_apply, wK_apply]

theorem accTo_apply (j : Fin 8) (i : Fin 256) (b : Fin 512) : ∀ (k : ℕ) (h : k < 32),
    accTo a1 h1 a3 h3 a4 h4 x0 x2 x3 j k h (ix2 i b) = ∑ q : Fin (k + 1), dK a1 h1 a3 h3 a4 h4 x0 x2 x3 ⟨q.val, by omega⟩ j (ix2 i b)
  | 0, h => by rw [Fin.sum_univ_one]; rfl
  | k + 1, h => by
    rw [Fin.sum_univ_castSucc]
    refine Eq.trans ?_ (congrArg (· + _) (accTo_apply j i b k (Nat.lt_of_succ_lt h)))
    rfl

/-- One chunk's product is the row's. -/
theorem accC_apply (j : Fin 8) (i : Fin 256) (b : Fin 512) :
    accC a1 h1 a3 h3 a4 h4 x0 x2 x3 j (ix2 i b) = Row.acc (rx x0 i) (rw' x2) (rs x3) ⟨512 * j.val + b.val, by omega⟩ := by
  unfold accC Row.acc
  rw [accTo_apply, ← Row.sum_chunks]
  exact Finset.sum_congr rfl fun q _ => dK_apply a1 h1 a3 h3 a4 h4 x0 x2 x3 q j i b
end

section
variable (a2 : Memref sig .tc .vmem S1x1x256 .f32) (h2 : a2.IsWhole) (x1 : Vec Ideal S1x1x256 .f32)

theorem xsC_apply (i : Fin 256) : xsC a2 h2 x1 (ix2 i 0) = x1 (ix3 0 0 i) := by
  unfold xsC k0_pay1553
  dsimp only
  refine (transpose_apply (s := S1x256) (t := S256x1) [1, 0] _ _ (ix2 i 0) (ix2 0 i) (fun b => by
    match b with
    | ⟨0, _⟩ => rfl
    | ⟨1, _⟩ => rfl)).trans ?_
  refine (shapeCast_apply (s := S1x1x256) (t := S1x256) _ _ (ix2 0 i) (ix3 0 0 i) (by
    rw [Shape.rowMajor_val_three, Shape.rowMajor_val_two]; rfl)).trans ?_
  refine (h2.readAt_unread x1 _ _).trans (congrArg x1 ?_)
  funext a; apply Fin.ext
  match a with
  | ⟨0, _⟩ => rfl
  | ⟨1, _⟩ => rfl
  | ⟨2, _⟩ => exact (by show 0 + 1 * i.val = i.val; omega)

theorem mx4_apply (v : FVec Ideal S256x128 .f32) (y : FVec Ideal S256x512 .f32) (i : Fin 256) (l : Fin 128) :
    mx4 v y (ix2 i l) = max (max (max (max (v (ix2 i l)) (Row.mag (y (ix2 i ⟨l.val, by omega⟩)))) (Row.mag (y (ix2 i ⟨128 + l.val, by omega⟩))))
      (Row.mag (y (ix2 i ⟨256 + l.val, by omega⟩)))) (Row.mag (y (ix2 i ⟨384 + l.val, by omega⟩))) := by
  have e : ∀ (o : ℕ) (ho : o + 128 ≤ 512) (hs : S256x512.Slices ![0, o] S256x128),
      extractStridedSlice S256x128 ![0, o] y hs (ix2 i l) = y (ix2 i ⟨o + l.val, by omega⟩) := fun o ho hs =>
    extractStridedSlice_apply (s := S256x512) (t := S256x128) _ y hs (ix2 i l) _ (fun a => by
      match a with
      | ⟨0, _⟩ => exact (Nat.zero_add _).symm
      | ⟨1, _⟩ => rfl)
  have e0 := e 0 (by omega) slices_S256x512_o0_0_S256x128
  have e1 := e 128 (by omega) slices_S256x512_o0_128_S256x128
  have e2 := e 256 (by omega) slices_S256x512_o0_256_S256x128
  have e3 := e 384 (by omega) slices_S256x512_o0_384_S256x128
  simp only [Nat.zero_add] at e0
  show max (max (max (max (v (ix2 i l)) (Row.mag (extractStridedSlice S256x128 ![0, 0] y _ (ix2 i l)))) (Row.mag (extractStridedSlice S256x128 ![0, 128] y _ (ix2 i l))))
    (Row.mag (extractStridedSlice S256x128 ![0, 256] y _ (ix2 i l)))) (Row.mag (extractStridedSlice S256x128 ![0, 384] y _ (ix2 i l))) = _
  rw [e0, e1, e2, e3]

/-- The lane maxima before chunk `j`, by their upper bounds. -/
theorem mxTo_le (y : Fin 8 → FVec Ideal S256x512 .f32) (i : Fin 256) (l : Fin 128) (B : EReal) : ∀ (j : ℕ) (h : j ≤ 8),
    mxTo y j h (ix2 i l) ≤ B ↔ 0 ≤ B ∧ ∀ (q : Fin 8), q.val < j → ∀ r : Fin 4, Row.mag (y q (ix2 i ⟨128 * r.val + l.val, by omega⟩)) ≤ B
  | 0, h => by
    show Ideal.ofBits .f32 0x00000000#32 ≤ B ↔ _
    rw [Ideal.ofBits_zero_f32]
    exact ⟨fun h => ⟨h, fun q hq => absurd hq (Nat.not_lt_zero _)⟩, fun h => h.1⟩
  | j + 1, h => by
    show mx4 (mxTo y j _) (y ⟨j, h⟩) (ix2 i l) ≤ B ↔ _
    rw [mx4_apply]
    simp only [max_le_iff]
    rw [mxTo_le y i l B j]
    constructor
    · rintro ⟨⟨⟨⟨⟨h0, hj⟩, g0⟩, g1⟩, g2⟩, g3⟩
      refine ⟨h0, fun q hq r => ?_⟩
      by_cases hqj : q.val < j
      · exact hj q hqj r
      · obtain rfl : q = ⟨j, h⟩ := Fin.ext (by simp only; omega)
        match r with
        | ⟨0, _⟩ => simpa using g0
        | ⟨1, _⟩ => exact g1
        | ⟨2, _⟩ => exact g2
        | ⟨3, _⟩ => exact g3
    · rintro ⟨h0, hj⟩
      refine ⟨⟨⟨⟨⟨h0, fun q hq r => hj q (by omega) r⟩, ?_⟩, ?_⟩, ?_⟩, ?_⟩
      · simpa using hj ⟨j, h⟩ (Nat.lt_succ_self j) 0
      · exact hj ⟨j, h⟩ (Nat.lt_succ_self j) 1
      · exact hj ⟨j, h⟩ (Nat.lt_succ_self j) 2
      · exact hj ⟨j, h⟩ (Nat.lt_succ_self j) 3

/-- The value whose exponent is taken is the row's. -/
theorem vC_apply (y : Fin 8 → FVec Ideal S256x512 .f32) (xs : FVec Ideal S256x1 .f32) (i : Fin 256) (Y : Fin 4096 → EReal)
    (hy : ∀ (j : Fin 8) (b : Fin 512), y j (ix2 i b) = Y ⟨512 * j.val + b.val, by omega⟩) :
    vC y xs (ix2 i 0) = (Finset.univ.sup fun n => Row.mag (Y n)) * Row.mag (xs (ix2 i 0)) * Ideal.ofBits .f32 0x3B124925#32 := by
  have e : shapeCast S256x1 (multiReduction .maximumf [1] S256 (mxTo y 8 (Nat.le_refl 8)) 0xFF800000#32 reduces_S256x128_S256 (.inl rfl) rfl) shapeCasts_S256_S256x1 (ix2 i 0)
      = Finset.univ.sup fun n => Row.mag (Y n) := by
    refine (shapeCast_apply (s := S256) (t := S256x1) _ _ (ix2 i 0) (ix1 i) (by
      rw [Shape.rowMajor_val_one, Shape.rowMajor_val_two]; show i.val = i.val * 1 + 0; omega)).trans ?_
    refine (Ideal.multiReduction_maximumf_single (s := S256x128) (t := S256) (a := 1) _ _ _ _ _ (ix1 i)).trans ?_
    refine (Row.fold_eq_sup (N := 128) _).trans ?_
    have el : ∀ l : Fin 128, (Shape.Reduces.lift (a := 1) reduces_S256x128_S256 (ix1 i) l : S256x128.Idx) = ix2 i l := fun l => by
      funext a; apply Fin.ext
      match a with
      | ⟨0, _⟩ => rfl
      | ⟨1, _⟩ => rfl
    refine Eq.trans (b := (Finset.univ : Finset (Fin 128)).sup fun l => (mxTo y 8 (Nat.le_refl 8) (ix2 i l) : EReal))
      (congrArg (Finset.sup (Finset.univ : Finset (Fin 128))) (funext fun l => congrArg (mxTo y 8 (Nat.le_refl 8)) (el l))) ?_
    refine eq_of_forall_ge_iff fun B => ?_
    rw [Finset.sup_le_iff, Finset.sup_le_iff]
    constructor
    · intro H n _
      have hl := H ⟨n.val % 128, by omega⟩ (Finset.mem_univ _)
      rw [mxTo_le] at hl
      have := hl.2 ⟨n.val / 512, by omega⟩ (by simp only; omega) ⟨n.val % 512 / 128, by omega⟩
      rw [hy] at this
      have en : n = ⟨512 * (n.val / 512) + (128 * (n.val % 512 / 128) + n.val % 128), by omega⟩ := Fin.ext (by simp only; omega)
      rw [en]; exact this
    · intro H l _
      rw [mxTo_le]
      refine ⟨(Row.mag_nonneg _).trans (H 0 (Finset.mem_univ _)), fun q _ r => ?_⟩
      rw [hy]; exact H _ (Finset.mem_univ _)
  show _ * Row.mag (xs (ix2 i 0)) * _ = _
  rw [← e]; rfl

theorem p2_apply (e : IVec S256x1 32) (j : S256x1.Idx) : p2 (F := Ideal) e j = Exp.p2 (e j) := rfl
theorem stp_apply (v : FVec Ideal S256x1 .f32) (s : BitVec 32) (e : IVec S256x1 32) (j : S256x1.Idx) : stp v s e j = Exp.stp (v j) s (e j) := rfl
theorem eC_apply (v : FVec Ideal S256x1 .f32) (j : S256x1.Idx) : eC v j = Exp.eK (v j) := by
  unfold eC Exp.eK Exp.srch
  show Scalar.select (IntOp.andi _ _) (IntOp.addi (stp _ _ _ j) 1#32) 0#32 = _
  simp only [stp_apply]
  rfl

theorem scC_apply (e : IVec S256x1 32) (i : Fin 256) : scC (F := Ideal) e (ix3 0 0 i) = Exp.p2 (e (ix2 i 0)) := by
  unfold scC
  refine (shapeCast_apply (s := S1x256) (t := S1x1x256) _ _ (ix3 0 0 i) (ix2 0 i) (by
    rw [Shape.rowMajor_val_three, Shape.rowMajor_val_two]; rfl)).trans ?_
  exact (transpose_apply (s := S256x1) (t := S1x256) [1, 0] _ _ (ix2 0 i) (ix2 i 0) (fun b => by
    match b with
    | ⟨0, _⟩ => rfl
    | ⟨1, _⟩ => rfl)).trans rfl

theorem col_apply (v : FVec Ideal S256x1 .f32) (i : Fin 256) (l : Fin 128) :
    shapeCast S256x128 (broadcastTo S256x128 (shapeCast S256x1 v shapeCasts_S256x1_S256x1) broadcasts_S256x1_S256x128) shapeCasts_S256x128_S256x128 (ix2 i l) = v (ix2 i 0) := by
  rw [shapeCast_self, shapeCast_self]
  exact broadcastTo_apply (s := S256x1) (t := S256x128) v _ (ix2 i l) (ix2 i 0) (fun a => by
    match a with
    | ⟨0, _⟩ => rfl
    | ⟨1, _⟩ => rfl)
theorem inC_apply (e : IVec S256x1 32) (i : Fin 256) (l : Fin 128) : inC (F := Ideal) e (ix2 i l) = Exp.p2 (IntOp.subi 0#32 (e (ix2 i 0))) :=
  (col_apply _ i l).trans rfl
theorem pay1563_apply (xs : FVec Ideal S256x1 .f32) (i : Fin 256) (l : Fin 128) : k0_pay1563 xs (ix2 i l) = xs (ix2 i 0) :=
  col_apply xs i l
end

end Cert.KernelIdeal.Value

end
-- ==== Proof.Value.State.lean ====
/- What the buffers hold after each point of the grid, on the extended reals. -/
module

public import proofs.«01_k».proof.Proof.Value.Ends
public import proofs.«01_k».proof.Proof.Value.Ker

@[expose] public section

set_option maxRecDepth 16384

noncomputable section

namespace Cert.KernelIdeal.Value

open Idealize.ShloMosaic Idealize.ShloMosaic.TcCoe Idealize.ShloMosaic.ValueIdx
open Cert.KernelIdeal.Gen Cert.KernelIdeal.Run

/-- Stores that cover a place, over earlier ones that need not matter. -/
theorem read_writes_append {sig : RefSig} {κ : Kind} {sp : Space} {s : Shape} {e : EltTy} {Val : EltTy → Type} (v : View sig κ sp s e) (f)
    (G : s.Idx → Val e) (Z : List (View.Piece Val s e)) :
    ∀ L : List (View.Piece Val s e), (∀ p ∈ L, ∀ x : p.1.shape.Idx, p.2 x = G (p.1.emb x)) →
      ∀ y : s.Idx, (∃ p ∈ L, ∃ x, p.1.emb x = y) → v.read Val (v.writes Val f (L ++ Z)) y = G y
  | [], _, _, h => by obtain ⟨_, hm, _⟩ := h; exact absurd hm List.not_mem_nil
  | p :: L, hG, y, h => by
    rw [List.cons_append]
    by_cases hy : y ∈ p.1.set
    · obtain ⟨x, rfl⟩ : ∃ x, p.1.emb x = y := p.1.exists_idx_of_mem hy
      obtain ⟨r, w⟩ := p
      rw [View.read_writes_cons_emb]
      exact hG ⟨r, w⟩ List.mem_cons_self x
    · have hy' : y ∉ Finset.univ.map p.1.emb := by rwa [Rect.map_emb_univ]
      rw [View.writes_cons, View.read_slice_write_of_not_mem p.1 _ _ _ hy']
      refine read_writes_append v f G Z L (fun p' hp' => hG p' (List.mem_cons_of_mem _ hp')) y ?_
      obtain ⟨p', hm, x, hx⟩ := h
      rcases List.mem_cons.mp hm with rfl | hm
      · exact absurd (Finset.mem_map.mpr ⟨x, Finset.mem_univ _, hx⟩) hy'
      · exact ⟨p', hm, x, hx⟩

/-- One store of a whole buffer, over earlier ones. -/
theorem read_whole2 {sig : RefSig} {κ : Kind} {sp : Space} {n0 n1 : ℕ} {e : EltTy} {Val : EltTy → Type} (v : View sig κ sp ⟨2, ![n0, n1]⟩ e) (f)
    (inb) (g : (⟨2, ![n0, n1]⟩ : Shape).Idx → Val e) (Z : List (View.Piece Val ⟨2, ![n0, n1]⟩ e)) (y) :
    v.read Val (v.writes Val f ([⟨Rect.unit (s := ⟨2, ![n0, n1]⟩) ![0, 0] (⟨2, ![n0, n1]⟩ : Shape).size inb, g⟩] ++ Z)) y = g y := by
  have key : ∀ x, (Rect.unit (s := ⟨2, ![n0, n1]⟩) ![0, 0] (⟨2, ![n0, n1]⟩ : Shape).size inb).emb x = x := fun x => by
    funext a; apply Fin.ext
    match a with
    | ⟨0, _⟩ => exact (by show 0 + 1 * (x 0).val = (x 0).val; omega)
    | ⟨1, _⟩ => exact (by show 0 + 1 * (x 1).val = (x 1).val; omega)
  refine read_writes_append v f g Z _ (fun p hp x => ?_) y ⟨_, List.mem_singleton.mpr rfl, y, key y⟩
  obtain rfl := List.mem_singleton.mp hp
  exact congrArg g (key x).symm
theorem read_whole3 {sig : RefSig} {κ : Kind} {sp : Space} {n0 n1 n2 : ℕ} {e : EltTy} {Val : EltTy → Type} (v : View sig κ sp ⟨3, ![n0, n1, n2]⟩ e) (f)
    (inb) (g : (⟨3, ![n0, n1, n2]⟩ : Shape).Idx → Val e) (Z : List (View.Piece Val ⟨3, ![n0, n1, n2]⟩ e)) (y) :
    v.read Val (v.writes Val f ([⟨Rect.unit (s := ⟨3, ![n0, n1, n2]⟩) ![0, 0, 0] (⟨3, ![n0, n1, n2]⟩ : Shape).size inb, g⟩] ++ Z)) y = g y := by
  have key : ∀ x, (Rect.unit (s := ⟨3, ![n0, n1, n2]⟩) ![0, 0, 0] (⟨3, ![n0, n1, n2]⟩ : Shape).size inb).emb x = x := fun x => by
    funext a; apply Fin.ext
    match a with
    | ⟨0, _⟩ => exact (by show 0 + 1 * (x 0).val = (x 0).val; omega)
    | ⟨1, _⟩ => exact (by show 0 + 1 * (x 1).val = (x 1).val; omega)
    | ⟨2, _⟩ => exact (by show 0 + 1 * (x 2).val = (x 2).val; omega)
  refine read_writes_append v f g Z _ (fun p hp x => ?_) y ⟨_, List.mem_singleton.mpr rfl, y, key y⟩
  obtain rfl := List.mem_singleton.mp hp
  exact congrArg g (key x).symm

section
variable (a1 : Memref sig .tc .vmem S256x8192 .fp8e4m3) (h1 : a1.IsWhole) (a3 : Memref sig .tc .vmem S8192x4096 .fp8e4m3) (h3 : a3.IsWhole)
  (a4 : Memref sig .tc .smem S64x32 .f32) (h4 : a4.IsWhole)
  (x0 : Vec Ideal S256x8192 .fp8e4m3) (x2 : Vec Ideal S8192x4096 .fp8e4m3) (x3 : Vec Ideal S64x32 .f32)

/-- The product's buffer, read at an index. -/
theorem readY {κ : Kind} {sp : Space} (v : View sig κ sp S256x4096 .f32) (f) (Z) (i : Fin 256) (n : Fin 4096) :
    v.read (Elt Ideal) (v.writes (Elt Ideal) f
      ([pcY a1 h1 a3 h3 a4 h4 x0 x2 x3 7, pcY a1 h1 a3 h3 a4 h4 x0 x2 x3 6, pcY a1 h1 a3 h3 a4 h4 x0 x2 x3 5, pcY a1 h1 a3 h3 a4 h4 x0 x2 x3 4,
         pcY a1 h1 a3 h3 a4 h4 x0 x2 x3 3, pcY a1 h1 a3 h3 a4 h4 x0 x2 x3 2, pcY a1 h1 a3 h3 a4 h4 x0 x2 x3 1, pcY a1 h1 a3 h3 a4 h4 x0 x2 x3 0] ++ Z)) (ix2 i n)
      = Row.acc (rx x0 i) (rw' x2) (rs x3) n := by
  have emb : ∀ (j : Fin 8) (x : S256x512.Idx), (Rect.unit (s := S256x4096) ![0, 512 * j.val] S256x512.size (inbY j)).emb x
      = ix2 (x 0) ⟨512 * j.val + (x 1).val, by have : (x 1).val < 512 := (x 1).isLt; omega⟩ := fun j x => by
    funext a; apply Fin.ext
    match a with
    | ⟨0, _⟩ => exact (by show 0 + 1 * (x 0).val = (x 0).val; omega)
    | ⟨1, _⟩ => exact (by show 512 * j.val + 1 * (x 1).val = 512 * j.val + (x 1).val; omega)
  refine read_writes_append v f (fun j => Row.acc (rx x0 (j 0)) (rw' x2) (rs x3) (j 1)) Z _ (fun p hp x => ?_) (ix2 i n)
    ⟨pcY a1 h1 a3 h3 a4 h4 x0 x2 x3 ⟨n.val / 512, by omega⟩, ?_, ix2 i ⟨n.val % 512, by omega⟩, ?_⟩
  · obtain ⟨j, rfl⟩ : ∃ j, p = pcY a1 h1 a3 h3 a4 h4 x0 x2 x3 j := by
      simp only [List.mem_cons, List.not_mem_nil, or_false] at hp
      rcases hp with h | h | h | h | h | h | h | h <;> exact ⟨_, h⟩
    have hx : x = ix2 (n0 := 256) (n1 := 512) (x 0) (x 1) := eq_ix2 (n0 := 256) (n1 := 512) x
    show shapeCast S256x512 (accC a1 h1 a3 h3 a4 h4 x0 x2 x3 j) shapeCasts_S256x512_S256x512 x = _
    rw [shapeCast_self]
    refine (congrArg _ hx).trans ((accC_apply a1 h1 a3 h3 a4 h4 x0 x2 x3 j (x 0) (x 1)).trans ?_)
    exact congrArg (fun y : S256x4096.Idx => Row.acc (rx x0 (y 0)) (rw' x2) (rs x3) (y 1)) (emb j x).symm
  · have : ∀ j : Fin 8, j = 7 ∨ j = 6 ∨ j = 5 ∨ j = 4 ∨ j = 3 ∨ j = 2 ∨ j = 1 ∨ j = 0 := by decide
    rcases this ⟨n.val / 512, by omega⟩ with h | h | h | h | h | h | h | h <;> rw [h] <;> simp
  · refine (emb _ _).trans (congrArg (ix2 (n0 := 256) (n1 := 4096) i) (Fin.ext ?_))
    show 512 * (n.val / 512) + n.val % 512 = n.val
    omega

variable (a2 : Memref sig .tc .vmem S1x1x256 .f32) (h2 : a2.IsWhole) (x1 : Vec Ideal S1x1x256 .f32)

/-- The exponent of a token's row. -/
theorem exp_apply (i : Fin 256) : eC (vC (accC a1 h1 a3 h3 a4 h4 x0 x2 x3) (xsC a2 h2 x1)) (ix2 i 0)
    = Exp.eK (Row.top (rx x0 i) (rw' x2) (rs x3) (x1 (ix3 0 0 i))) := by
  rw [eC_apply, vC_apply _ _ i (Row.acc (rx x0 i) (rw' x2) (rs x3)) (fun j b => accC_apply a1 h1 a3 h3 a4 h4 x0 x2 x3 j i b), xsC_apply, Row.top_eq]
end

section
variable (a7 : Memref sig .tc .vmem S256x4096 .f32) (h7 : a7.IsWhole)
  (a8 : Memref sig .tc .vmem S256x128 .f32) (h8 : a8.IsWhole) (a9 : Memref sig .tc .vmem S256x128 .f32) (h9 : a9.IsWhole)
  (xs0 : Vec Ideal S256x4096 .f32) (xs1 xs2 : Vec Ideal S256x128 .f32)

/-- The codes' buffer, read at an index. -/
theorem readQ {κ : Kind} {sp : Space} (v : View sig κ sp S256x4096 .fp8e4m3) (f) (i : Fin 256) (n : Fin 4096) :
    v.read (Elt Ideal) (v.writes (Elt Ideal) f (pcsQ a7 h7 a8 h8 a9 h9 xs0 xs1 xs2)) (ix2 i n)
      = min (Ideal.ofBits .f32 0x43E00000#32) (max (Ideal.ofBits .f32 0xC3E00000#32)
          (xs0 (ix2 i n) * xs1 (ix2 i ⟨n.val % 128, by omega⟩) * xs2 (ix2 i ⟨n.val % 128, by omega⟩))) := by
  have emb : ∀ (q : Fin 32) (x : S256x128.Idx), (Rect.unit (s := S256x4096) ![0, 128 * q.val] S256x128.size (inbQ q)).emb x
      = ix2 (x 0) ⟨128 * q.val + (x 1).val, by have : (x 1).val < 128 := (x 1).isLt; omega⟩ := fun q x => by
    funext a; apply Fin.ext
    match a with
    | ⟨0, _⟩ => exact (by show 0 + 1 * (x 0).val = (x 0).val; omega)
    | ⟨1, _⟩ => exact (by show 128 * q.val + 1 * (x 1).val = 128 * q.val + (x 1).val; omega)
  have emb0 : ∀ x : S256x128.Idx, (Rect.unit (s := S256x128) ![0, 0] S256x128.size inb_S256x128_S256x128_0_0).toLoadRect.idx x = x := fun x => by
    funext a; apply Fin.ext
    match a with
    | ⟨0, _⟩ => exact (by show 0 + 1 * (x 0).val = (x 0).val; omega)
    | ⟨1, _⟩ => exact (by show 0 + 1 * (x 1).val = (x 1).val; omega)
  have fin : ∀ q : Fin 32, q ∈ ([31, 30, 29, 28, 27, 26, 25, 24, 23, 22, 21, 20, 19, 18, 17, 16, 15, 14, 13, 12, 11, 10, 9, 8, 7, 6, 5, 4, 3, 2, 1, 0] : List (Fin 32)) := by
    decide
  have key := read_writes_append v f (fun j : S256x4096.Idx => (min (Ideal.ofBits .f32 0x43E00000#32) (max (Ideal.ofBits .f32 0xC3E00000#32)
          (xs0 j * xs1 (ix2 (j 0) ⟨(j 1).val % 128, Nat.mod_lt _ (by decide)⟩) * xs2 (ix2 (j 0) ⟨(j 1).val % 128, Nat.mod_lt _ (by decide)⟩))) : EReal)) []
    (pcsQ a7 h7 a8 h8 a9 h9 xs0 xs1 xs2) (fun p hp x => ?_) (ix2 i n)
    ⟨pcQ a7 h7 a8 h8 a9 h9 xs0 xs1 xs2 ⟨n.val / 128, by omega⟩, List.mem_map.mpr ⟨_, fin _, rfl⟩, ix2 i ⟨n.val % 128, by omega⟩, ?_⟩
  · rw [List.append_nil] at key; exact key
  · obtain ⟨q, _, rfl⟩ := List.mem_map.mp hp
    have e0 : View.readAt (Elt Ideal) a7.view (Rect.unit (s := S256x4096) ![0, 128 * q.val] S256x128.size (inbQ q)).toLoadRect (h7.unread xs0) x
        = xs0 ((Rect.unit (s := S256x4096) ![0, 128 * q.val] S256x128.size (inbQ q)).emb x) := (h7.readAt_unread xs0 _ _).trans rfl
    have e1 : View.readAt (Elt Ideal) a8.view (Rect.unit (s := S256x128) ![0, 0] S256x128.size inb_S256x128_S256x128_0_0).toLoadRect (h8.unread xs1) x = xs1 x :=
      (h8.readAt_unread xs1 _ _).trans (congrArg xs1 (emb0 x))
    have e2 : View.readAt (Elt Ideal) a9.view (Rect.unit (s := S256x128) ![0, 0] S256x128.size inb_S256x128_S256x128_0_0).toLoadRect (h9.unread xs2) x = xs2 x :=
      (h9.readAt_unread xs2 _ _).trans (congrArg xs2 (emb0 x))
    have e3 : (ix2 (((Rect.unit (s := S256x4096) ![0, 128 * q.val] S256x128.size (inbQ q)).emb x) 0)
        ⟨(((Rect.unit (s := S256x4096) ![0, 128 * q.val] S256x128.size (inbQ q)).emb x) 1).val % 128, Nat.mod_lt _ (by decide)⟩ : S256x128.Idx) = x := by
      funext a; apply Fin.ext
      match a with
      | ⟨0, _⟩ => exact (by show 0 + 1 * (x 0).val = (x 0).val; omega)
      | ⟨1, _⟩ => exact (by show (128 * q.val + 1 * (x 1).val) % 128 = (x 1).val; have : (x 1).val < 128 := (x 1).isLt; omega)
    show (min _ (max _ ((_ : EReal) * _ * _)) : EReal) = min _ (max _ ((_ : EReal) * _ * _))
    refine congrArg (fun z : EReal => min (Ideal.ofBits .f32 0x43E00000#32) (max (Ideal.ofBits .f32 0xC3E00000#32) z)) ?_
    exact congrArg₂ (fun a b : EReal => a * b) (congrArg₂ (fun a b : EReal => a * b) e0 (e1.trans (congrArg xs1 e3.symm))) (e2.trans (congrArg xs2 e3.symm))
  · refine (emb _ _).trans (congrArg (ix2 (n0 := 256) (n1 := 4096) i) (Fin.ext ?_))
    show 128 * (n.val / 128) + n.val % 128 = n.val
    omega
end

variable (m : (ℓ : Loc nD τ sig) → Buf (Elt Ideal) ℓ)

/-- What a point that computes leaves, besides the codes. -/
def Holds (x0 : Vec Ideal S256x8192 .fp8e4m3) (x1 : Vec Ideal S1x1x256 .f32) (x2 : Vec Ideal S8192x4096 .fp8e4m3) (x3 : Vec Ideal S64x32 .f32) (s : St Ideal) : Prop :=
  (∀ i, s.2.1 (ix3 0 0 i) = Row.scale (rx x0 i) (rw' x2) (rs x3) (x1 (ix3 0 0 i)))
  ∧ (∀ i n, s.2.2.1 (ix2 i n) = Row.acc (rx x0 i) (rw' x2) (rs x3) n)
  ∧ (∀ i l, s.2.2.2.1 (ix2 i l) = x1 (ix3 0 0 i))
  ∧ (∀ i l, s.2.2.2.2 (ix2 i l) = Exp.p2 (IntOp.subi 0#32 (Exp.eK (Row.top (rx x0 i) (rw' x2) (rs x3) (x1 (ix3 0 0 i))))))

theorem holds_of (c : Dev nD) (t : Fin cfg0.N) (s : St Ideal) (Zy) (Zx Zi) (x0) (x1) (x2) (x3)
    (es : s.2.1 = VO0_5.read (Elt Ideal) (VO0_5.writes (Elt Ideal) VO0_5.junk
      [⟨Rect.unit (s := S1x1x256) ![0, 0, 0] S1x1x256.size inb_S1x1x256_S1x1x256_0_0_0, scC (F := Ideal) (eC (vC (accC (ms0_0 t) (hs0_0 t) (ms0_2 t) (hs0_2 t) (ms0_3 t) (hs0_3 t) x0 x2 x3) (xsC (ms0_1 t) (hs0_1 t) x1)))⟩]))
    (ey : s.2.2.1 = VS0_0.read (Elt Ideal) (VS0_0.writes (Elt Ideal) VS0_0.junk
      ([7, 6, 5, 4, 3, 2, 1, 0].map (pcY (ms0_0 t) (hs0_0 t) (ms0_2 t) (hs0_2 t) (ms0_3 t) (hs0_3 t) x0 x2 x3) ++ Zy)))
    (ex : s.2.2.2.1 = VS0_1.read (Elt Ideal) (VS0_1.writes (Elt Ideal) VS0_1.junk
      ([⟨Rect.unit (s := S256x128) ![0, 0] S256x128.size inb_S256x128_S256x128_0_0, k0_pay1563 (xsC (ms0_1 t) (hs0_1 t) x1)⟩] ++ Zx)))
    (ei : s.2.2.2.2 = VS0_2.read (Elt Ideal) (VS0_2.writes (Elt Ideal) VS0_2.junk
      ([⟨Rect.unit (s := S256x128) ![0, 0] S256x128.size inb_S256x128_S256x128_0_0, inC (F := Ideal) (eC (vC (accC (ms0_0 t) (hs0_0 t) (ms0_2 t) (hs0_2 t) (ms0_3 t) (hs0_3 t) x0 x2 x3) (xsC (ms0_1 t) (hs0_1 t) x1)))⟩] ++ Zi))) :
    Holds x0 x1 x2 x3 s := by
  refine ⟨fun i => ?_, fun i n => ?_, fun i l => ?_, fun i l => ?_⟩
  · rw [es]
    refine (read_whole3 (n0 := 1) (n1 := 1) (n2 := 256) VO0_5 _ inb_S1x1x256_S1x1x256_0_0_0 _ [] (ix3 0 0 i)).trans ?_
    rw [scC_apply, exp_apply]; rfl
  · rw [ey]; exact readY (ms0_0 t) (hs0_0 t) (ms0_2 t) (hs0_2 t) (ms0_3 t) (hs0_3 t) x0 x2 x3 VS0_0 _ Zy i n
  · rw [ex]
    refine (read_whole2 (n0 := 256) (n1 := 128) VS0_1 _ inb_S256x128_S256x128_0_0 _ Zx (ix2 i l)).trans ?_
    rw [pay1563_apply, xsC_apply]
  · rw [ei]
    refine (read_whole2 (n0 := 256) (n1 := 128) VS0_2 _ inb_S256x128_S256x128_0_0 _ Zi (ix2 i l)).trans ?_
    rw [inC_apply, exp_apply]

/-- After a point before the last, the buffers hold that block's rows. -/
theorem holds (c : Dev nD) (t : Fin cfg0.N) (ht : t.val < 96) :
    Holds (iblk m c 0 t) (iblk m c 1 t) (iblk m c 2 t) (iblk m c 3 t) (stateAt m c t.val t.isLt) := by
  by_cases h : t.val = 0
  · rw [stateAt_first m c t h]; unfold stepA
    refine holds_of c t _ [⟨Rect.unit (s := S256x4096) ![0, 0] S256x4096.size inb_S256x4096_S256x4096_0_0, k0_pay1 (F := Ideal)⟩]
      [⟨Rect.unit (s := S256x128) ![0, 0] S256x128.size inb_S256x128_S256x128_0_0, k0_pay2 (F := Ideal)⟩]
      [⟨Rect.unit (s := S256x128) ![0, 0] S256x128.size inb_S256x128_S256x128_0_0, k0_pay3 (F := Ideal)⟩] _ _ _ _ ?_ ?_ ?_ ?_
    · dsimp only; rw [piecesA_scale]
    · dsimp only; rw [piecesA_y]; rfl
    · dsimp only; rw [piecesA_xs]
    · dsimp only; rw [piecesA_inv]
  · rw [stateAt_mid m c t h ht]; unfold stepB
    refine holds_of c t _ [] [] [] _ _ _ _ ?_ ?_ ?_ ?_
    · dsimp only; rw [piecesB_scale]
    · dsimp only; rw [piecesB_y]; rfl
    · dsimp only; rw [piecesB_xs]; rfl
    · dsimp only; rw [piecesB_inv]; rfl

/-- After any point but the first, the codes' buffer holds the codes of the block before. -/
theorem codes_at (c : Dev nD) (t : Fin cfg0.N) (ht : t.val ≠ 0) (u : Fin cfg0.N) (hu : u.val = t.val - 1) (i : Fin 256) (n : Fin 4096) :
    (stateAt m c t.val t.isLt).1 (ix2 i n)
      = Row.code (rx (iblk m c 0 u) i) (rw' (iblk m c 2 u)) (rs (iblk m c 3 u)) (iblk m c 1 u (ix3 0 0 i)) n := by
  have hN : t.val < 97 := lt_of_lt_of_eq t.isLt (show cfg0.N = 97 from N_0)
  have hp : prevAt m c t = stateAt m c u.val u.isLt := by
    obtain ⟨u, hul⟩ := u; obtain rfl : u = t.val - 1 := hu; rfl
  obtain ⟨-, hy, hx, hi⟩ := holds m c u (by omega)
  rw [← hp] at hy hx hi
  have fin : ∀ e : Vec Ideal S256x4096 .fp8e4m3, e = VO0_4.read (Elt Ideal) (VO0_4.writes (Elt Ideal) VO0_4.junk
      (pcsQ scM0_0 (Memref.isWhole_whole _) scM0_1 (Memref.isWhole_whole _) scM0_2 (Memref.isWhole_whole _) (prevAt m c t).2.2.1 (prevAt m c t).2.2.2.1 (prevAt m c t).2.2.2.2)) →
      e (ix2 i n) = Row.code (rx (iblk m c 0 u) i) (rw' (iblk m c 2 u)) (rs (iblk m c 3 u)) (iblk m c 1 u (ix3 0 0 i)) n := fun e he => by
    rw [he]
    refine (readQ scM0_0 (Memref.isWhole_whole _) scM0_1 (Memref.isWhole_whole _) scM0_2 (Memref.isWhole_whole _) _ _ _ VO0_4 _ i n).trans ?_
    rw [hy, hx, hi]; rfl
  by_cases h : t.val < 96
  · rw [stateAt_mid m c t ht h]; unfold stepB
    refine fin _ ?_
    dsimp only; rw [piecesB_codes]
  · rw [stateAt_last m c t h]; unfold stepC
    refine fin _ ?_
    dsimp only; rw [piecesC_codes]

end Cert.KernelIdeal.Value

end
-- ==== Proof.Value.Goal.lean ====
/- The two results, index by index, as functions of the four arguments. -/
module

public import proofs.«01_k».proof.Proof.Value.Row
public import Idealize.ShloMosaic.Lib.ValueIdxCore

@[expose] public section

noncomputable section

namespace Cert.Goal

open Idealize.ShloMosaic Idealize.ShloMosaic.ValueIdx

/-- The codes, of a token's row and an output column. -/
def codes (X : (⟨2, ![24576, 8192]⟩ : Shape).Idx → EReal) (A : Fin 24576 → EReal) (W : (⟨2, ![8192, 4096]⟩ : Shape).Idx → EReal)
    (S : (⟨2, ![64, 32]⟩ : Shape).Idx → EReal) : (⟨2, ![24576, 4096]⟩ : Shape).Idx → EReal := fun j =>
  Row.code (fun k => X (ix2 (j 0) k)) (fun k n => W (ix2 k n)) (fun a b => S (ix2 a b)) (A (j 0)) (j 1)

/-- The row of a block's token. -/
def row (t : Fin 96) (i : Fin 256) : Fin 24576 := ⟨256 * t.val + i.val, by omega⟩

/-- The scales, of a block and a token in it. -/
def scales (X : (⟨2, ![24576, 8192]⟩ : Shape).Idx → EReal) (A : Fin 24576 → EReal) (W : (⟨2, ![8192, 4096]⟩ : Shape).Idx → EReal)
    (S : (⟨2, ![64, 32]⟩ : Shape).Idx → EReal) : (⟨3, ![96, 1, 256]⟩ : Shape).Idx → EReal := fun j =>
  Row.scale (fun k => X (ix2 (row (j 0) (j 2)) k)) (fun k n => W (ix2 k n)) (fun a b => S (ix2 a b)) (A (row (j 0) (j 2)))

end Cert.Goal

end
-- ==== Proof.Value.Final.lean ====
/- The kernel's two arrays at the end of the grid, and its run with them named. -/
module

public import proofs.«01_k».proof.Proof.Value.State
public import proofs.«01_k».proof.Proof.Value.Goal

@[expose] public section

set_option maxRecDepth 16384

noncomputable section

namespace Cert.KernelIdeal.Value

open Idealize.ShloMosaic Idealize.ShloMosaic.TcCoe Idealize.ShloMosaic.ValueIdx Idealize.SL.Sem
open Cert.KernelIdeal.Gen Cert.KernelIdeal.Run

theorem idx0 : ∀ t : Fin cfg0.N, win0_0.index t 0 = min t.val 95 ∧ win0_0.index t 1 = 0 :=
  (by decide +kernel : ∀ t : Fin grid0.N, win0_0.index t 0 = min t.val 95 ∧ win0_0.index t 1 = 0)
theorem idx1 : ∀ t : Fin cfg0.N, win0_1.index t 0 = min t.val 95 ∧ win0_1.index t 1 = 0 ∧ win0_1.index t 2 = 0 :=
  (by decide +kernel : ∀ t : Fin grid0.N, win0_1.index t 0 = min t.val 95 ∧ win0_1.index t 1 = 0 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val - 1 ∧ win0_4.index t 1 = 0 :=
  (by decide +kernel : ∀ t : Fin grid0.N, win0_4.index t 0 = t.val - 1 ∧ win0_4.index t 1 = 0)
theorem idx5 : ∀ t : Fin cfg0.N, win0_5.index t 0 = min t.val 95 ∧ win0_5.index t 1 = 0 ∧ win0_5.index t 2 = 0 :=
  (by decide +kernel : ∀ t : Fin grid0.N, win0_5.index t 0 = min t.val 95 ∧ win0_5.index t 1 = 0 ∧ win0_5.index t 2 = 0)
theorem flush4 : ∀ t : Fin cfg0.N, win0_4.flush t = true ↔ t.val ≠ 0 :=
  (by decide +kernel : ∀ t : Fin grid0.N, win0_4.flush t = true ↔ t.val ≠ 0)
theorem flush5 : ∀ t : Fin cfg0.N, win0_5.flush t = true ↔ t.val ≠ 95 :=
  (by decide +kernel : ∀ t : Fin grid0.N, win0_5.flush t = true ↔ t.val ≠ 95)

variable (m : (ℓ : Loc nD τ sig) → Buf (Elt Ideal) ℓ) (ρ : Dev nD → PrngReg)

/-- The block a point reads. -/
def blkOf (t : Fin cfg0.N) : Fin 96 := ⟨min t.val 95, by omega⟩

abbrev X (c : Dev nD) : S24576x8192.Idx → EReal := V m c main_v0
abbrev A (c : Dev nD) : Fin 24576 → EReal := fun r => V m c main_v1 (ix3 (n0 := 96) (n1 := 1) (n2 := 256) ⟨r.val / 256, by omega⟩ 0 ⟨r.val % 256, by omega⟩)
abbrev W (c : Dev nD) : S8192x4096.Idx → EReal := V m c main_arg2
abbrev S (c : Dev nD) : S64x32.Idx → EReal := V m c main_arg3

theorem iblk0 (c : Dev nD) (t : Fin cfg0.N) (i : Fin 256) (k : Fin 8192) : iblk m c 0 t (ix2 i k) = X m c (ix2 (Goal.row (blkOf t) i) k) := by
  show V m c main_v0 ((win0_0.rect t).emb (ix2 i k)) = _
  congr 1; funext a; apply Fin.ext
  obtain ⟨e0, e1⟩ := idx0 t
  match a with
  | ⟨0, _⟩ =>
    refine (win0_0.rect_emb_val t _ 0).trans ?_
    rw [e0]; show min t.val 95 * 256 + i.val = 256 * min t.val 95 + i.val; omega
  | ⟨1, _⟩ =>
    refine (win0_0.rect_emb_val t _ 1).trans ?_
    rw [e1]; show 0 * 8192 + k.val = k.val; omega

theorem iblk1 (c : Dev nD) (t : Fin cfg0.N) (i : Fin 256) : iblk m c 1 t (ix3 0 0 i) = A m c (Goal.row (blkOf t) i) := by
  show V m c main_v1 ((win0_1.rect t).emb (ix3 (n0 := 1) (n1 := 1) (n2 := 256) 0 0 i)) = _
  show _ = V m c main_v1 _
  congr 1; funext a; apply Fin.ext
  obtain ⟨e0, e1, e2⟩ := idx1 t
  match a with
  | ⟨0, _⟩ =>
    refine (win0_1.rect_emb_val t _ 0).trans ?_
    rw [e0]; show min t.val 95 * 1 + 0 = (256 * min t.val 95 + i.val) / 256; omega
  | ⟨1, _⟩ =>
    refine (win0_1.rect_emb_val t _ 1).trans ?_
    rw [e1]; rfl
  | ⟨2, _⟩ =>
    refine (win0_1.rect_emb_val t _ 2).trans ?_
    rw [e2]; show 0 * 256 + i.val = (256 * min t.val 95 + i.val) % 256; omega

theorem iblk2 (c : Dev nD) (t : Fin cfg0.N) (k : Fin 8192) (n : Fin 4096) : iblk m c 2 t (ix2 k n) = W m c (ix2 k n) := by
  show V m c main_arg2 ((win0_2.rect t).emb (ix2 k n)) = _
  congr 1; funext a; apply Fin.ext
  obtain ⟨e0, e1⟩ := idx2 t
  match a with
  | ⟨0, _⟩ => exact win0_2.rect_emb_val_of_index_zero t 0 e0 _
  | ⟨1, _⟩ => exact win0_2.rect_emb_val_of_index_zero t 1 e1 _

theorem iblk3 (c : Dev nD) (t : Fin cfg0.N) (a : Fin 64) (b : Fin 32) : iblk m c 3 t (ix2 a b) = S m c (ix2 a b) := by
  show V m c main_arg3 ((win0_3.rect t).emb (ix2 a b)) = _
  congr 1; funext a; apply Fin.ext
  obtain ⟨e0, e1⟩ := idx3 t
  match a with
  | ⟨0, _⟩ => exact win0_3.rect_emb_val_of_index_zero t 0 e0 _
  | ⟨1, _⟩ => exact win0_3.rect_emb_val_of_index_zero t 1 e1 _

theorem rx_eq (c : Dev nD) (t : Fin cfg0.N) (i : Fin 256) : rx (iblk m c 0 t) i = fun k => X m c (ix2 (Goal.row (blkOf t) i) k) := funext fun k => iblk0 m c t i k
theorem rw_eq (c : Dev nD) (t : Fin cfg0.N) : rw' (iblk m c 2 t) = fun k n => W m c (ix2 k n) := funext fun k => funext fun n => iblk2 m c t k n
theorem rs_eq (c : Dev nD) (t : Fin cfg0.N) : rs (iblk m c 3 t) = fun a b => S m c (ix2 a b) := funext fun a => funext fun b => iblk3 m c t a b

/-- The scales a point leaves are those of the block it reads. -/
theorem scale_at (c : Dev nD) (t : Fin cfg0.N) (i : Fin 256) :
    (stateAt m c t.val t.isLt).2.1 (ix3 0 0 i) = Goal.scales (X m c) (A m c) (W m c) (S m c) (ix3 (blkOf t) 0 i) := by
  have go : ∀ u : Fin cfg0.N, u.val < 96 → (stateAt m c u.val u.isLt).2.1 (ix3 0 0 i) = Goal.scales (X m c) (A m c) (W m c) (S m c) (ix3 (blkOf u) 0 i) := fun u hu => by
    rw [(holds m c u hu).1 i, rx_eq, rw_eq, rs_eq, iblk1]; rfl
  by_cases h : t.val < 96
  · exact go t h
  · have hN : t.val < 97 := lt_of_lt_of_eq t.isLt (show cfg0.N = 97 from N_0)
    have hu : t.val - 1 < cfg0.N := lt_of_le_of_lt (Nat.sub_le _ _) t.isLt
    rw [stateAt_last m c t h]
    refine (go ⟨t.val - 1, hu⟩ (by show t.val - 1 < 96; omega)).trans ?_
    have : blkOf ⟨t.val - 1, hu⟩ = blkOf t := Fin.ext (by show min (t.val - 1) 95 = min t.val 95; omega)
    rw [this]

theorem arr4 (c : Dev nD) : (dats m 0 c).arrAt 4 cfg0.N = Goal.codes (X m c) (A m c) (W m c) (S m c) := by
  refine (dats m 0 c).arrAt_eq_of_cover 4 (Goal.codes (X m c) (A m c) (W m c) (S m c)) (fun t hf => ?_) (fun j => ?_)
  · have ht : t.val ≠ 0 := (flush4 t).mp hf
    have hN : t.val < 97 := lt_of_lt_of_eq t.isLt (show cfg0.N = 97 from N_0)
    have e : (dats m 0 c).flushed 4 t = (cfg0.win 4).cut (grid0.coords t) ((stateAt m c t.val t.isLt).1) := by
      show (cfg0.win 4).cut (grid0.coords t) ((dats m 0 c).after 4 t) = _
      rw [after0_4]
    rw [e]
    funext y
    show (stateAt m c t.val t.isLt).1 y = Goal.codes (X m c) (A m c) (W m c) (S m c) ((win0_4.rect t).emb y)
    have hu : t.val - 1 < cfg0.N := lt_of_le_of_lt (Nat.sub_le _ _) t.isLt
    have hy : y = ix2 (n0 := 256) (n1 := 4096) (y 0) (y 1) := eq_ix2 (n0 := 256) (n1 := 4096) y
    obtain ⟨e0, e1⟩ := idx4 t
    have hz : (win0_4.rect t).emb y = ix2 (n0 := 24576) (n1 := 4096) (Goal.row (blkOf ⟨t.val - 1, hu⟩) (y 0)) (y 1) := by
      funext a; apply Fin.ext
      match a with
      | ⟨0, _⟩ =>
        refine (win0_4.rect_emb_val t _ 0).trans ?_
        rw [e0]; show (t.val - 1) * 256 + (y 0).val = 256 * min (t.val - 1) 95 + (y 0).val; omega
      | ⟨1, _⟩ => exact win0_4.rect_emb_val_of_index_zero t 1 e1 _
    rw [hz]
    have go : ∀ (i : Fin 256) (n : Fin 4096), (stateAt m c t.val t.isLt).1 (ix2 i n)
        = Goal.codes (X m c) (A m c) (W m c) (S m c) (ix2 (Goal.row (blkOf ⟨t.val - 1, hu⟩) i) n) := fun i n => by
      rw [codes_at m c t ht ⟨t.val - 1, hu⟩ rfl i n, rx_eq, rw_eq, rs_eq, iblk1]; rfl
    exact (congrArg _ hy).trans (go (y 0) (y 1))
  · have h0 : (j 0).val < 24576 := (j 0).isLt
    have ht : (j 0).val / 256 + 1 < cfg0.N := lt_of_lt_of_eq (by omega : (j 0).val / 256 + 1 < 97) (show 97 = cfg0.N from N_0.symm)
    refine ⟨⟨(j 0).val / 256 + 1, ht⟩, (flush4 _).mpr (Nat.succ_ne_zero _), ?_⟩
    obtain ⟨e0, e1⟩ := idx4 ⟨(j 0).val / 256 + 1, ht⟩
    have hz : (win0_4.rect ⟨(j 0).val / 256 + 1, ht⟩).emb (ix2 (n0 := 256) (n1 := 4096) ⟨(j 0).val % 256, by omega⟩ (j 1)) = j := by
      funext a; apply Fin.ext
      match a with
      | ⟨0, _⟩ =>
        refine (win0_4.rect_emb_val _ _ 0).trans ?_
        rw [e0]; show ((j 0).val / 256 + 1 - 1) * 256 + (j 0).val % 256 = (j 0).val; omega
      | ⟨1, _⟩ => exact win0_4.rect_emb_val_of_index_zero _ 1 e1 _
    exact (congrArg (fun x => x ∈ ((cfg0.win 4).blk ⟨(j 0).val / 256 + 1, ht⟩).view.set) hz).mp (View.emb_mem_set ((cfg0.win 4).blk ⟨(j 0).val / 256 + 1, ht⟩).view _)

theorem arr5 (c : Dev nD) : (dats m 0 c).arrAt 5 cfg0.N = Goal.scales (X m c) (A m c) (W m c) (S m c) := by
  refine (dats m 0 c).arrAt_eq_of_cover 5 (Goal.scales (X m c) (A m c) (W m c) (S m c)) (fun t hf => ?_) (fun j => ?_)
  · have e : (dats m 0 c).flushed 5 t = (cfg0.win 5).cut (grid0.coords t) ((stateAt m c t.val t.isLt).2.1) := by
      show (cfg0.win 5).cut (grid0.coords t) ((dats m 0 c).after 5 t) = _
      rw [after0_5]
    rw [e]
    funext y
    show (stateAt m c t.val t.isLt).2.1 y = Goal.scales (X m c) (A m c) (W m c) (S m c) ((win0_5.rect t).emb y)
    have hy : y = ix3 (n0 := 1) (n1 := 1) (n2 := 256) 0 0 (y 2) := by
      funext a; apply Fin.ext
      match a with
      | ⟨0, _⟩ => exact (by show (y 0).val = 0; have : (y 0).val < 1 := (y 0).isLt; omega)
      | ⟨1, _⟩ => exact (by show (y 1).val = 0; have : (y 1).val < 1 := (y 1).isLt; omega)
      | ⟨2, _⟩ => rfl
    obtain ⟨e0, e1, e2⟩ := idx5 t
    have hz : (win0_5.rect t).emb y = ix3 (n0 := 96) (n1 := 1) (n2 := 256) (blkOf t) 0 (y 2) := by
      funext a; apply Fin.ext
      match a with
      | ⟨0, _⟩ =>
        refine (win0_5.rect_emb_val t _ 0).trans ?_
        rw [e0]; show min t.val 95 * 1 + (y 0).val = min t.val 95; have : (y 0).val < 1 := (y 0).isLt; omega
      | ⟨1, _⟩ => exact (win0_5.rect_emb_val_of_index_zero t 1 e1 _).trans (by show (y 1).val = 0; have : (y 1).val < 1 := (y 1).isLt; omega)
      | ⟨2, _⟩ => exact win0_5.rect_emb_val_of_index_zero t 2 e2 _
    rw [hz]
    exact (congrArg _ hy).trans (scale_at m c t (y 2))
  · have h0 : (j 0).val < 96 := (j 0).isLt
    have hN : cfg0.N = 97 := N_0
    obtain ⟨t, htf, htv⟩ : ∃ t : Fin cfg0.N, t.val ≠ 95 ∧ min t.val 95 = (j 0).val := by
      by_cases h : (j 0).val = 95
      · exact ⟨⟨96, by omega⟩, by show 96 ≠ 95; omega, by show min 96 95 = _; omega⟩
      · exact ⟨⟨(j 0).val, by omega⟩, h, by show min (j 0).val 95 = _; omega⟩
    refine ⟨t, (flush5 _).mpr htf, ?_⟩
    obtain ⟨e0, e1, e2⟩ := idx5 t
    have hz : (win0_5.rect t).emb (ix3 (n0 := 1) (n1 := 1) (n2 := 256) 0 0 (j 2)) = j := by
      funext a; apply Fin.ext
      match a with
      | ⟨0, _⟩ =>
        refine (win0_5.rect_emb_val _ _ 0).trans ?_
        rw [e0]; show min t.val 95 * 1 + 0 = (j 0).val; omega
      | ⟨1, _⟩ => exact (win0_5.rect_emb_val_of_index_zero _ 1 e1 _).trans (by show 0 = (j 1).val; have : (j 1).val < 1 := (j 1).isLt; omega)
      | ⟨2, _⟩ => exact win0_5.rect_emb_val_of_index_zero _ 2 e2 _
    exact (congrArg (fun x => x ∈ ((cfg0.win 5).blk t).view.set) hz).mp (View.emb_mem_set ((cfg0.win 5).blk t).view _)

/-- The kernel's run: its two results named, its arguments kept. -/
theorem run : θ_run defs (onTc (τ := τ) (main (F := Ideal))) ⟨m, fun _ => 0, ρ⟩ fun r => ∀ c : Dev nD,
      r.2.mem ((c.tc : Thread nD τ).loc main_v2_0) = Goal.codes (X m c) (A m c) (W m c) (S m c)
      ∧ r.2.mem ((c.tc : Thread nD τ).loc main_v2_1) = Goal.scales (X m c) (A m c) (W m c) (S m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (arr4 m c), ((h.1 c).1 5).trans (arr5 m c), (h.2 c).1, (h.2 c).2.1, (h.2 c).2.2.1, (h.2 c).2.2.2⟩)
    (θ_run_and (run_main m ρ) ((θ_run defs _ _).mono (fun _ h => h.1) (frame m ρ)))

end Cert.KernelIdeal.Value

end
-- ==== Proof.Value.Ref.lean ====
/- The reference's two arrays, index by index, and its run with them named. -/
module

public import proofs.«01_k».proof.Proof.Gen.ReferenceIdeal.Frame
public import proofs.«01_k».proof.Proof.Value.Goal
public import Idealize.ShloMosaic.Lib.Pipeline.Value
public import Idealize.ShloMosaic.Lib.MatmulPlain

@[expose] public section

set_option maxRecDepth 16384

noncomputable section

namespace Cert.ReferenceIdeal.Value

open Idealize.ShloMosaic Idealize.ShloMosaic.TcCoe Idealize.ShloMosaic.ValueIdx Idealize.SL.Sem
open Cert.ReferenceIdeal.Gen

section
variable {s : Shape}
theorem at_select (c : IVec s 1) (a b : FVec Ideal s .f32) (i : s.Idx) : select c a b i = (Scalar.select (c i) (a i : EReal) (b i : EReal) : EReal) := (rfl)
theorem at_andi (a b : IVec s 1) (i : s.Idx) : andi a b i = IntOp.andi (a i) (b i) := (rfl)
theorem at_cmpf (p : CmpFPredicate) (a b : FVec Ideal s .f32) (i : s.Idx) : cmpf p a b i = Ideal.cmp p (a i) (b i) := (rfl)
theorem at_mulf (a b : FVec Ideal s .f32) (i : s.Idx) : mulf a b i = (a i * b i : EReal) := (rfl)
theorem at_addf (a b : FVec Ideal s .f32) (i : s.Idx) : addf a b i = (a i + b i : EReal) := (rfl)
theorem at_subf (a b : FVec Ideal s .f32) (i : s.Idx) : subf a b i = (a i - b i : EReal) := (rfl)
theorem at_min (a b : FVec Ideal s .f32) (i : s.Idx) : minimumf a b i = (min (a i) (b i) : EReal) := (rfl)
theorem at_max (a b : FVec Ideal s .f32) (i : s.Idx) : maximumf a b i = (max (a i) (b i) : EReal) := (rfl)
theorem at_divf (a b : FVec Ideal s .f32) (i : s.Idx) : divf a b i = Ideal.div (a i) (b i) := (rfl)
theorem at_floor (a : FVec Ideal s .f32) (i : s.Idx) : floor a i = Ideal.liftRound Int.floor (a i) := (rfl)
theorem at_log (a : FVec Ideal s .f32) (i : s.Idx) : log a i = Ideal.log (a i) := (rfl)
theorem at_exp2 (a : FVec Ideal s .f32) (i : s.Idx) : exp2 a i = Ideal.exp2 (a i) := (rfl)
theorem at_truncf (a : FVec Ideal s .f32) (h) (i : s.Idx) : truncf .fp8e4m3 a h i = a i := (rfl)
theorem at_broadcast {α : Type} (x : α) (i : s.Idx) : broadcast s x i = x := (rfl)
theorem at_ofBits (b : BitVec 32) : Scalar.ofBits (F := Ideal) .f32 b = Ideal.ofBits .f32 b := (rfl)
end

section
variable (x0 : Vec Ideal S24576x8192 .fp8e4m3) (x2 : Vec Ideal S8192x4096 .fp8e4m3) (x3 : Vec Ideal S64x32 .f32) (x1 : Vec Ideal S24576x1 .f32)

/-- A token's codes, the weights and their scales as plain functions. -/
abbrev rx (r : Fin 24576) : Fin 8192 → EReal := fun k => x0 (ix2 r k)
abbrev rw' : Fin 8192 → Fin 4096 → EReal := fun k n => x2 (ix2 k n)
abbrev rs : Fin 64 → Fin 32 → EReal := fun k n => x3 (ix2 k n)
abbrev ra (r : Fin 24576) : EReal := x1 (ix2 r 0)

/-- The scaled weights. -/
def wS : FVec Ideal S8192x4096 .bf16 :=
  shapeCast S8192x4096 (mulf (shapeCast S64x128x32x128 (extf .bf16 x2 bitsLt_fp8e4m3_bf16) shapeCasts_S8192x4096_S64x128x32x128)
    (broadcastTo S64x128x32x128 (shapeCast S64x1x32x1 (truncf .bf16 x3 bitsLt_bf16_f32) shapeCasts_S64x32_S64x1x32x1) broadcasts_S64x1x32x1_S64x128x32x128))
    shapeCasts_S64x128x32x128_S8192x4096

theorem wS_apply (k : Fin 8192) (n : Fin 4096) : wS x2 x3 (ix2 k n) = x2 (ix2 k n) * x3 (ix2 ⟨k.val / 128, by omega⟩ ⟨n.val / 128, by omega⟩) := by
  let j : S64x128x32x128.Idx := ix4 (n0 := 64) (n1 := 128) (n2 := 32) (n3 := 128) ⟨k.val / 128, by omega⟩ ⟨k.val % 128, by omega⟩ ⟨n.val / 128, by omega⟩ ⟨n.val % 128, by omega⟩
  let b : S64x1x32x1.Idx := ix4 (n0 := 64) (n1 := 1) (n2 := 32) (n3 := 1) ⟨k.val / 128, by omega⟩ 0 ⟨n.val / 128, by omega⟩ 0
  have hj : (S64x128x32x128.rowMajor j).val = (S8192x4096.rowMajor (ix2 k n)).val := by
    rw [Shape.rowMajor_val_four, Shape.rowMajor_val_two]
    show ((k.val / 128 * 128 + k.val % 128) * 32 + n.val / 128) * 128 + n.val % 128 = k.val * 4096 + n.val
    omega
  unfold wS
  refine (shapeCast_apply (s := S64x128x32x128) (t := S8192x4096) _ _ (ix2 k n) j hj).trans ?_
  show shapeCast S64x128x32x128 x2 shapeCasts_S8192x4096_S64x128x32x128 j
    * broadcastTo S64x128x32x128 (shapeCast S64x1x32x1 x3 shapeCasts_S64x32_S64x1x32x1) broadcasts_S64x1x32x1_S64x128x32x128 j = _
  refine congrArg₂ (fun a b : EReal => a * b) (shapeCast_apply (s := S8192x4096) (t := S64x128x32x128) _ _ j (ix2 k n) hj.symm) ?_
  refine (broadcastTo_apply (s := S64x1x32x1) (t := S64x128x32x128) _ _ j b (fun a => by
    match a with
    | ⟨0, _⟩ => rfl
    | ⟨1, _⟩ => rfl
    | ⟨2, _⟩ => rfl
    | ⟨3, _⟩ => rfl)).trans ?_
  exact shapeCast_apply (s := S64x32) (t := S64x1x32x1) _ _ b (ix2 ⟨k.val / 128, by omega⟩ ⟨n.val / 128, by omega⟩) (by
    rw [Shape.rowMajor_val_four, Shape.rowMajor_val_two]
    show k.val / 128 * 32 + n.val / 128 = ((k.val / 128 * 1 + 0) * 32 + n.val / 128) * 1 + 0
    omega)

theorem bc_apply (v : FVec Ideal S24576x1 .f32) (r : Fin 24576) (n : Fin 4096) :
    broadcastTo S24576x4096 v broadcasts_S24576x1_S24576x4096 (ix2 r n) = v (ix2 r 0) :=
  broadcastTo_apply (s := S24576x1) (t := S24576x4096) v _ (ix2 r n) (ix2 r 0) (fun a => by
    match a with
    | ⟨0, _⟩ => rfl
    | ⟨1, _⟩ => rfl)

/-- The dequantised product. -/
theorem pay4_apply (r : Fin 24576) (n : Fin 4096) :
    k0_pay4 x0 x2 x3 x1 (ix2 r n) = Row.acc (rx x0 r) (rw' x2) (rs x3) n * ra x1 r := by
  have e : k0_pay4 x0 x2 x3 x1 = mulf (matmul dot_S24576x8192_S8192x4096_S24576x4096_1_0_0_1_n_n none
      (extf .bf16 (shapeCast S24576x8192 x0 shapeCasts_S24576x8192_S24576x8192) bitsLt_fp8e4m3_bf16) (wS x2 x3) (constant S24576x4096 .f32 0x00000000#32))
      (broadcastTo S24576x4096 (shapeCast S24576x1 x1 shapeCasts_S24576x1_S24576x1) broadcasts_S24576x1_S24576x4096) := rfl
  rw [e, shapeCast_self, shapeCast_self]
  refine congrArg₂ (fun a b : EReal => a * b) ?_ (bc_apply x1 r n)
  refine (Ideal.matmul_plain_apply (M := 24576) (K := 8192) (N := 4096) none (extf .bf16 x0 bitsLt_fp8e4m3_bf16) (wS x2 x3) _ r n).trans ?_
  show Ideal.ofBits .f32 0x00000000#32 + _ = _
  rw [Ideal.ofBits_zero_f32, zero_add]
  exact Finset.sum_congr rfl fun k _ => congrArg (fun z : EReal => x0 (ix2 r k) * z) (wS_apply x2 x3 k n)

/-- The greatest magnitude of a token's row. -/
theorem pay5_apply (r : Fin 24576) :
    k0_pay5 x0 x2 x3 x1 (ix2 r 0) = Finset.univ.sup fun n => Row.mag (Row.acc (rx x0 r) (rw' x2) (rs x3) n * ra x1 r) := by
  unfold k0_pay5
  dsimp only
  refine (shapeCast_apply (s := S24576) (t := S24576x1) _ _ (ix2 r 0) (ix1 r) (by
    rw [Shape.rowMajor_val_one, Shape.rowMajor_val_two]; show r.val = r.val * 1 + 0; omega)).trans ?_
  refine (Ideal.multiReduction_maximumf_single (s := S24576x4096) (t := S24576) (a := 1) _ _ _ _ _ (ix1 r)).trans ?_
  refine (Row.fold_eq_sup (N := 4096) _).trans ?_
  have el : ∀ l : Fin 4096, (Shape.Reduces.lift (a := 1) reduces_S24576x4096_S24576 (ix1 r) l : S24576x4096.Idx) = ix2 r l := fun l => by
    funext a; apply Fin.ext
    match a with
    | ⟨0, _⟩ => rfl
    | ⟨1, _⟩ => rfl
  have ep : ∀ l : Fin 4096, absf (k0_pay4 x0 x2 x3 x1) (ix2 r l) = Row.mag (Row.acc (rx x0 r) (rw' x2) (rs x3) l * ra x1 r) := fun l =>
    congrArg Row.mag (pay4_apply x0 x2 x3 x1 r l)
  exact congrArg (Finset.sup (Finset.univ : Finset (Fin 4096))) (funext fun l => (congrArg (absf (k0_pay4 x0 x2 x3 x1)) (el l)).trans (ep l))

theorem pay6_apply (r : Fin 24576) :
    k0_pay6 x0 x2 x3 x1 (ix2 r 0) = Exp.eR (k0_pay5 x0 x2 x3 x1 (ix2 r 0) * Ideal.ofBits .f32 0x3B124925#32) := by
  unfold k0_pay6
  generalize k0_pay5 x0 x2 x3 x1 = p
  generalize (ix2 r 0 : S24576x1.Idx) = i
  simp -implicitDefEqProofs only [at_select, at_andi, at_cmpf, at_mulf, at_addf, at_min, at_divf, at_floor, at_log, at_broadcast, at_ofBits]
  unfold Exp.eR
  with_reducible rfl

theorem pay1_at (p : FVec Ideal S24576x1 .f32) (q : FVec Ideal S24576x1 .f32) (i : S24576x1.Idx) :
    k0_pay1 q (cmpf .oeq p (broadcast S24576x1 (Scalar.ofBits .f32 0x00000000#32))) (broadcast S24576x1 (Scalar.ofBits .f32 0x00000000#32)) i
      = Scalar.select (Ideal.cmp .oeq (p i) (Ideal.ofBits .f32 0x00000000#32)) (Ideal.ofBits .f32 0x00000000#32) (q i) := by
  unfold k0_pay1
  simp -implicitDefEqProofs only [at_select, at_cmpf, at_broadcast, at_ofBits]

/-- The exponent, a zero row included. -/
theorem pay1_apply (r : Fin 24576) : k0_pay1 (k0_pay6 x0 x2 x3 x1) (k0_pay7 x0 x2 x3 x1) (k0_pay8 (F := Ideal)) (ix2 r 0)
    = Exp.eR (Row.top (rx x0 r) (rw' x2) (rs x3) (ra x1 r)) := by
  have e := pay1_at (k0_pay5 x0 x2 x3 x1) (k0_pay6 x0 x2 x3 x1) (ix2 r 0)
  unfold k0_pay7 k0_pay8
  rw [e, pay6_apply, pay5_apply, Ideal.ofBits_zero_f32]
  unfold Row.top
  generalize (Finset.univ.sup fun n => Row.mag (Row.acc (rx x0 r) (rw' x2) (rs x3) n * ra x1 r)) = M
  by_cases h : M = 0
  · have hc : Ideal.cmp .oeq M 0 = 1#1 := by simp [Ideal.cmp, h]
    rw [hc, h, zero_mul, Exp.eR_zero]; exact if_pos rfl
  · have hc : Ideal.cmp .oeq M 0 = 0#1 := by simp [Ideal.cmp, h]
    rw [hc]; exact if_neg (by decide)

theorem pay3_at (p : FVec Ideal S24576x1 .f32) (q : IVec S24576x1 1) (z : FVec Ideal S24576x1 .f32) (t : Fin 96) (i : Fin 256) :
    k0_pay3 p q z (ix3 t 0 i) = Ideal.exp2 (k0_pay1 p q z (ix2 (Goal.row t i) 0)) := by
  unfold k0_pay3
  generalize k0_pay1 p q z = e
  refine (shapeCast_apply (s := S24576x1) (t := S96x1x256) _ _ (ix3 t 0 i) (ix2 (Goal.row t i) 0) (by
    rw [Shape.rowMajor_val_three, Shape.rowMajor_val_two]
    show (256 * t.val + i.val) * 1 + 0 = (t.val * 1 + 0) * 256 + i.val; omega)).trans ?_
  exact at_exp2 e _

theorem pay3_apply (t : Fin 96) (i : Fin 256) :
    k0_pay3 (k0_pay6 x0 x2 x3 x1) (k0_pay7 x0 x2 x3 x1) (k0_pay8 (F := Ideal)) (ix3 t 0 i)
      = Row.scale (rx x0 (Goal.row t i)) (rw' x2) (rs x3) (ra x1 (Goal.row t i)) := by
  rw [pay3_at, pay1_apply, Exp.scale_agree]
  unfold Row.scale
  with_reducible rfl

theorem pay2_at (y : FVec Ideal S24576x4096 .f32) (p : FVec Ideal S24576x1 .f32) (q : IVec S24576x1 1) (z : FVec Ideal S24576x1 .f32) (r : Fin 24576) (n : Fin 4096) :
    k0_pay2 y p q z (ix2 r n) = min (Ideal.ofBits .f32 0x43E00000#32) (max (Ideal.ofBits .f32 0xC3E00000#32) (y (ix2 r n)
        * Ideal.exp2 (Ideal.ofBits .f32 0x00000000#32 - k0_pay1 p q z (ix2 r 0)))) := by
  unfold k0_pay2
  generalize k0_pay1 p q z = e
  have hb := bc_apply (exp2 (subf (broadcast S24576x1 (Scalar.ofBits (F := Ideal) .f32 0x00000000#32)) e)) r n
  rw [at_exp2, at_subf, at_broadcast, at_ofBits] at hb
  simp -implicitDefEqProofs only [at_truncf, at_min, at_max, at_mulf, at_broadcast, at_ofBits, hb]

theorem pay2_apply (r : Fin 24576) (n : Fin 4096) :
    k0_pay2 (k0_pay4 x0 x2 x3 x1) (k0_pay6 x0 x2 x3 x1) (k0_pay7 x0 x2 x3 x1) (k0_pay8 (F := Ideal)) (ix2 r n)
      = Row.code (rx x0 r) (rw' x2) (rs x3) (ra x1 r) n := by
  rw [pay2_at, pay4_apply, pay1_apply, Ideal.ofBits_zero_f32, Exp.inv_agree]
  unfold Row.code
  with_reducible rfl
end

theorem hz2 : (![0, 0] : Fin 2 → Nat) = fun _ => 0 := by decide
theorem hz3 : (![0, 0, 0] : Fin 3 → Nat) = fun _ => 0 := by decide

section
variable (x0 : Vec Ideal S24576x8192 .fp8e4m3) (x1 : Vec Ideal S24576x1 .f32) (x2 : Vec Ideal S8192x4096 .fp8e4m3) (x3 : Vec Ideal S64x32 .f32)

theorem ld0 : View.ld x0 r0_0 = x0 := View.ld_unit_zero (S := S24576x8192) hz2 _ x0
theorem ld1 : View.ld x2 r0_1 = x2 := View.ld_unit_zero (S := S8192x4096) hz2 _ x2
theorem ld2 : View.ld x3 r0_2 = x3 := View.ld_unit_zero (S := S64x32) hz2 _ x3
theorem ld3 : View.ld x1 r0_3 = x1 := View.ld_unit_zero (S := S24576x1) hz2 _ x1

theorem out4_apply (r : Fin 24576) (n : Fin 4096) : out0_4 x0 x1 x2 x3 (ix2 r n) = Row.code (rx x0 r) (rw' x2) (rs x3) (ra x1 r) n := by
  unfold out0_4 k0_pay9 k0_pay10 k0_pay11
  rw [ld0, ld1, ld2, ld3]
  refine (congrFun (View.canon_unit_zero (S := S24576x4096) hz2 _ _) (ix2 r n)).trans ?_
  exact pay2_apply x0 x2 x3 x1 r n

theorem out5_apply (t : Fin 96) (i : Fin 256) :
    out0_5 x0 x1 x2 x3 (ix3 t 0 i) = Row.scale (rx x0 (Goal.row t i)) (rw' x2) (rs x3) (ra x1 (Goal.row t i)) := by
  unfold out0_5 k0_pay9 k0_pay10 k0_pay11
  rw [ld0, ld1, ld2, ld3]
  refine (congrFun (View.canon_unit_zero (S := S96x1x256) hz3 _ _) (ix3 t 0 i)).trans ?_
  exact pay3_apply x0 x2 x3 x1 t i
end

variable (m : (ℓ : Loc nD τ sig) → Buf (Elt Ideal) ℓ) (ρ : Dev nD → PrngReg)

abbrev X (c : Dev nD) : S24576x8192.Idx → EReal := V m c main_v0
abbrev A (c : Dev nD) : Fin 24576 → EReal := fun r => V m c main_v1 (ix2 r 0)
abbrev W (c : Dev nD) : S8192x4096.Idx → EReal := V m c main_arg2
abbrev S (c : Dev nD) : S64x32.Idx → EReal := V m c main_arg3

theorem idx0 : ∀ (t : Fin cfg0.N) (a : Fin 2), win0_0.index t a = 0 := (by decide +kernel : ∀ (t : Fin grid0.N) (a : Fin 2), win0_0.index t a = 0)
theorem idx1 : ∀ (t : Fin cfg0.N) (a : Fin 2), win0_1.index t a = 0 := (by decide +kernel : ∀ (t : Fin grid0.N) (a : Fin 2), win0_1.index t a = 0)
theorem idx2 : ∀ (t : Fin cfg0.N) (a : Fin 2), win0_2.index t a = 0 := (by decide +kernel : ∀ (t : Fin grid0.N) (a : Fin 2), win0_2.index t a = 0)
theorem idx3 : ∀ (t : Fin cfg0.N) (a : Fin 2), win0_3.index t a = 0 := (by decide +kernel : ∀ (t : Fin grid0.N) (a : Fin 2), win0_3.index t a = 0)
theorem idx4 : ∀ (t : Fin cfg0.N) (a : Fin 2), win0_4.index t a = 0 := (by decide +kernel : ∀ (t : Fin grid0.N) (a : Fin 2), win0_4.index t a = 0)
theorem idx5 : ∀ (t : Fin cfg0.N) (a : Fin 3), win0_5.index t a = 0 := (by decide +kernel : ∀ (t : Fin grid0.N) (a : Fin 3), win0_5.index t a = 0)
theorem flush4 : ∀ t : Fin cfg0.N, win0_4.flush t = true := (by decide +kernel : ∀ t : Fin grid0.N, win0_4.flush t = true)
theorem flush5 : ∀ t : Fin cfg0.N, win0_5.flush t = true := (by decide +kernel : ∀ t : Fin grid0.N, win0_5.flush t = true)

theorem iblk0 (c : Dev nD) (t : Fin cfg0.N) (y : S24576x8192.Idx) : iblk m c 0 t y = X m c y := by
  show V m c main_v0 ((win0_0.rect t).emb y) = _
  exact congrArg _ (funext fun a => Fin.ext (win0_0.rect_emb_val_of_index_zero t a (idx0 t a) y))
theorem iblk1 (c : Dev nD) (t : Fin cfg0.N) (y : S24576x1.Idx) : iblk m c 1 t y = V m c main_v1 y := by
  show V m c main_v1 ((win0_1.rect t).emb y) = _
  exact congrArg _ (funext fun a => Fin.ext (win0_1.rect_emb_val_of_index_zero t a (idx1 t a) y))
theorem iblk2 (c : Dev nD) (t : Fin cfg0.N) (y : S8192x4096.Idx) : iblk m c 2 t y = W m c y := by
  show V m c main_arg2 ((win0_2.rect t).emb y) = _
  exact congrArg _ (funext fun a => Fin.ext (win0_2.rect_emb_val_of_index_zero t a (idx2 t a) y))
theorem iblk3 (c : Dev nD) (t : Fin cfg0.N) (y : S64x32.Idx) : iblk m c 3 t y = S m c y := by
  show V m c main_arg3 ((win0_3.rect t).emb y) = _
  exact congrArg _ (funext fun a => Fin.ext (win0_3.rect_emb_val_of_index_zero t a (idx3 t a) y))

theorem rx_eq (c : Dev nD) (t : Fin cfg0.N) (r : Fin 24576) : rx (iblk m c 0 t) r = fun k => X m c (ix2 r k) := funext fun k => iblk0 m c t _
theorem rw_eq (c : Dev nD) (t : Fin cfg0.N) : rw' (iblk m c 2 t) = fun k n => W m c (ix2 k n) := funext fun k => funext fun n => iblk2 m c t _
theorem rs_eq (c : Dev nD) (t : Fin cfg0.N) : rs (iblk m c 3 t) = fun a b => S m c (ix2 a b) := funext fun a => funext fun b => iblk3 m c t _
theorem ra_eq (c : Dev nD) (t : Fin cfg0.N) (r : Fin 24576) : ra (iblk m c 1 t) r = A m c r := iblk1 m c t _

theorem first : 0 < cfg0.N := (by decide +kernel : 0 < grid0.N)

theorem arr4 (c : Dev nD) : (dats m 0 c).arrAt 4 cfg0.N = Goal.codes (X m c) (A m c) (W m c) (S m c) := by
  have hz : ∀ (t : Fin cfg0.N) (y : S24576x4096.Idx), (win0_4.rect t).emb y = y := fun t y =>
    funext fun a => Fin.ext (win0_4.rect_emb_val_of_index_zero t a (idx4 t a) y)
  refine (dats m 0 c).arrAt_eq_of_cover 4 (Goal.codes (X m c) (A m c) (W m c) (S m c)) (fun t hf => ?_) (fun j => ⟨⟨0, first⟩, flush4 _, ?_⟩)
  · have e : (dats m 0 c).flushed 4 t = (cfg0.win 4).cut (grid0.coords t) (out0_4 (iblk m c 0 t) (iblk m c 1 t) (iblk m c 2 t) (iblk m c 3 t)) := by
      show (cfg0.win 4).cut (grid0.coords t) ((dats m 0 c).after 4 t) = _
      rw [after0_4]
    rw [e]
    funext y
    show out0_4 (iblk m c 0 t) (iblk m c 1 t) (iblk m c 2 t) (iblk m c 3 t) y = Goal.codes (X m c) (A m c) (W m c) (S m c) ((win0_4.rect t).emb y)
    refine Eq.trans ?_ (congrArg (Goal.codes (X m c) (A m c) (W m c) (S m c)) (hz t y)).symm
    have go : ∀ (r : Fin 24576) (n : Fin 4096), out0_4 (iblk m c 0 t) (iblk m c 1 t) (iblk m c 2 t) (iblk m c 3 t) (ix2 r n)
        = Goal.codes (X m c) (A m c) (W m c) (S m c) (ix2 r n) := fun r n => by
      rw [out4_apply, rx_eq, rw_eq, rs_eq, ra_eq]; rfl
    have hy : y = ix2 (n0 := 24576) (n1 := 4096) (y 0) (y 1) := eq_ix2 (n0 := 24576) (n1 := 4096) y
    exact (congrArg _ hy).trans ((go (y 0) (y 1)).trans (congrArg (Goal.codes (X m c) (A m c) (W m c) (S m c)) hy.symm))
  · exact (congrArg (fun x => x ∈ ((cfg0.win 4).blk ⟨0, first⟩).view.set) (hz ⟨0, first⟩ j)).mp (View.emb_mem_set ((cfg0.win 4).blk ⟨0, first⟩).view _)

theorem arr5 (c : Dev nD) : (dats m 0 c).arrAt 5 cfg0.N = Goal.scales (X m c) (A m c) (W m c) (S m c) := by
  have hz : ∀ (t : Fin cfg0.N) (y : S96x1x256.Idx), (win0_5.rect t).emb y = y := fun t y =>
    funext fun a => Fin.ext (win0_5.rect_emb_val_of_index_zero t a (idx5 t a) y)
  refine (dats m 0 c).arrAt_eq_of_cover 5 (Goal.scales (X m c) (A m c) (W m c) (S m c)) (fun t hf => ?_) (fun j => ⟨⟨0, first⟩, flush5 _, ?_⟩)
  · have e : (dats m 0 c).flushed 5 t = (cfg0.win 5).cut (grid0.coords t) (out0_5 (iblk m c 0 t) (iblk m c 1 t) (iblk m c 2 t) (iblk m c 3 t)) := by
      show (cfg0.win 5).cut (grid0.coords t) ((dats m 0 c).after 5 t) = _
      rw [after0_5]
    rw [e]
    funext y
    show out0_5 (iblk m c 0 t) (iblk m c 1 t) (iblk m c 2 t) (iblk m c 3 t) y = Goal.scales (X m c) (A m c) (W m c) (S m c) ((win0_5.rect t).emb y)
    refine Eq.trans ?_ (congrArg (Goal.scales (X m c) (A m c) (W m c) (S m c)) (hz t y)).symm
    have go : ∀ (b : Fin 96) (i : Fin 256), out0_5 (iblk m c 0 t) (iblk m c 1 t) (iblk m c 2 t) (iblk m c 3 t) (ix3 b 0 i)
        = Goal.scales (X m c) (A m c) (W m c) (S m c) (ix3 b 0 i) := fun b i => by
      rw [out5_apply, rx_eq, rw_eq, rs_eq, ra_eq]; rfl
    have hy : y = ix3 (n0 := 96) (n1 := 1) (n2 := 256) (y 0) 0 (y 2) := by
      funext a; apply Fin.ext
      match a with
      | ⟨0, _⟩ => rfl
      | ⟨1, _⟩ => exact (by show (y 1).val = 0; have : (y 1).val < 1 := (y 1).isLt; omega)
      | ⟨2, _⟩ => rfl
    exact (congrArg _ hy).trans ((go (y 0) (y 2)).trans (congrArg (Goal.scales (X m c) (A m c) (W m c) (S m c)) hy.symm))
  · exact (congrArg (fun x => x ∈ ((cfg0.win 5).blk ⟨0, first⟩).view.set) (hz ⟨0, first⟩ j)).mp (View.emb_mem_set ((cfg0.win 5).blk ⟨0, first⟩).view _)

/-- The reference's run: its two results named, its arguments kept. -/
theorem run : θ_run defs (onTc (τ := τ) (main (F := Ideal))) ⟨m, fun _ => 0, ρ⟩ fun r => ∀ c : Dev nD,
      r.2.mem ((c.tc : Thread nD τ).loc main_v2_0) = Goal.codes (X m c) (A m c) (W m c) (S m c)
      ∧ r.2.mem ((c.tc : Thread nD τ).loc main_v2_1) = Goal.scales (X m c) (A m c) (W m c) (S m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (arr4 m c), ((h.1 c).1 5).trans (arr5 m c), (h.2 c).1, (h.2 c).2.1, (h.2 c).2.2.1, (h.2 c).2.2.2⟩)
    (θ_run_and (run_main m ρ) ((θ_run defs _ _).mono (fun _ h => h.1) (Gen.frame m ρ)))

end Cert.ReferenceIdeal.Value

end
-- ==== Proof.Value.Algebraic.lean ====
/- The kernel and the reference compute the same two results. -/
module

public import proofs.«01_k».proof.Defs
public import proofs.«01_k».proof.Proof.Value.Final
public import proofs.«01_k».proof.Proof.Value.Ref

@[expose] public section

set_option maxRecDepth 16384

noncomputable section

open Idealize.ShloMosaic Idealize.ShloMosaic.TcCoe Idealize.ShloMosaic.ValueIdx Idealize.SL.Sem

namespace Cert.KernelIdeal.Value
open Cert.KernelIdeal.Gen Cert.KernelIdeal.Run
variable (m : (ℓ : Loc nD τ sig) → Buf (Elt Ideal) ℓ)

/-- The codes the region finds are the argument's, rows in order. -/
theorem X_eq (c : Dev nD) : X m c = shapeCast S24576x8192 (m ((c.tc : Thread nD τ).loc main_arg0)) shapeCasts_S4x6144x8192_S24576x8192 := rfl
theorem v1_eq (c : Dev nD) : V m c main_v1 = shapeCast S96x1x256 (m ((c.tc : Thread nD τ).loc main_arg1)) shapeCasts_S4x6144x1_S96x1x256 := rfl
/-- A token's scale is the argument's at the token. -/
theorem A_at (c : Dev nD) (r : Fin 24576) : A m c r
    = m ((c.tc : Thread nD τ).loc main_arg1) (ix3 (n0 := 4) (n1 := 6144) (n2 := 1) ⟨r.val / 6144, by omega⟩ ⟨r.val % 6144, by omega⟩ 0) := by
  unfold A; rw [v1_eq]
  exact shapeCast_apply (s := S4x6144x1) (t := S96x1x256) _ _ _ _ (by
    rw [Shape.rowMajor_val_three, Shape.rowMajor_val_three]
    show (r.val / 6144 * 6144 + r.val % 6144) * 1 + 0 = (r.val / 256 * 1 + 0) * 256 + r.val % 256
    omega)
end Cert.KernelIdeal.Value

namespace Cert.ReferenceIdeal.Value
open Cert.ReferenceIdeal.Gen
variable (m : (ℓ : Loc nD τ sig) → Buf (Elt Ideal) ℓ)

theorem X_eq (c : Dev nD) : X m c = shapeCast S24576x8192 (m ((c.tc : Thread nD τ).loc main_arg0)) shapeCasts_S4x6144x8192_S24576x8192 := rfl
theorem v1_eq (c : Dev nD) : V m c main_v1 = shapeCast S24576x1 (m ((c.tc : Thread nD τ).loc main_arg1)) shapeCasts_S4x6144x1_S24576x1 := rfl
theorem A_at (c : Dev nD) (r : Fin 24576) : A m c r
    = m ((c.tc : Thread nD τ).loc main_arg1) (ix3 (n0 := 4) (n1 := 6144) (n2 := 1) ⟨r.val / 6144, by omega⟩ ⟨r.val % 6144, by omega⟩ 0) := by
  unfold A; rw [v1_eq]
  exact shapeCast_apply (s := S4x6144x1) (t := S24576x1) _ _ _ _ (by
    rw [Shape.rowMajor_val_three, Shape.rowMajor_val_two]
    show (r.val / 6144 * 6144 + r.val % 6144) * 1 + 0 = r.val * 1 + 0
    omega)
end Cert.ReferenceIdeal.Value

namespace Cert.Algebraic

/-- From the same arguments, both runs end with the same codes and the same scales. -/
theorem algebraic : Cert.algebraic_KernelIdeal_ReferenceIdeal (hKernelIdeal := Cert.KernelIdeal.Gen.facts) (hReferenceIdeal := Cert.ReferenceIdeal.Gen.facts) := by
  intro m g m' g' _ hin
  refine ⟨fun c => Goal.codes (Cert.KernelIdeal.Value.X m c) (Cert.KernelIdeal.Value.A m c) (Cert.KernelIdeal.Value.W m c) (Cert.KernelIdeal.Value.S m c),
    fun c => Goal.scales (Cert.KernelIdeal.Value.X m c) (Cert.KernelIdeal.Value.A m c) (Cert.KernelIdeal.Value.W m c) (Cert.KernelIdeal.Value.S m c),
    Cert.KernelIdeal.Value.run m g, ?_⟩
  refine (θ_run _ _ _).mono (fun r h c => ?_) (Cert.ReferenceIdeal.Value.run m' g')
  obtain ⟨h0, h1, h2⟩ := h c
  obtain ⟨a0, a1, a2, a3⟩ := hin c
  have eX : Cert.ReferenceIdeal.Value.X m' c = Cert.KernelIdeal.Value.X m c := by
    rw [Cert.ReferenceIdeal.Value.X_eq, Cert.KernelIdeal.Value.X_eq]
    exact congrArg (fun x => shapeCast Cert.KernelIdeal.S24576x8192 x Cert.KernelIdeal.Gen.shapeCasts_S4x6144x8192_S24576x8192) a0
  have eA : Cert.ReferenceIdeal.Value.A m' c = Cert.KernelIdeal.Value.A m c := funext fun r => by
    rw [Cert.ReferenceIdeal.Value.A_at, Cert.KernelIdeal.Value.A_at]
    exact congrFun a1 _
  have eW : Cert.ReferenceIdeal.Value.W m' c = Cert.KernelIdeal.Value.W m c :=
    (Cert.ReferenceIdeal.Gen.V_main_arg2 m' c).trans (a2.trans (Cert.KernelIdeal.Gen.V_main_arg2 m c).symm)
  have eS : Cert.ReferenceIdeal.Value.S m' c = Cert.KernelIdeal.Value.S m c :=
    (Cert.ReferenceIdeal.Gen.V_main_arg3 m' c).trans (a3.trans (Cert.KernelIdeal.Gen.V_main_arg3 m c).symm)
  rw [eX, eA, eW, eS] at h0 h1
  exact ⟨h0, h1, h2⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Run.Frame
public import proofs.«01_k».proof.Proof.RunKernel.Frame
public import proofs.«01_k».proof.Proof.Value.Algebraic
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Run.frame m ρ,
  fun m ρ _ => Cert.KernelIdeal.Run.frame m ρ,
  fun m ρ _ => Cert.ReferenceIdeal.Gen.frame m ρ,
  trivial,
  Cert.Algebraic.algebraic⟩

end Cert.Proof

end
